-- ==== Defs.lean ====
def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather [hPre_in_table : Cert.Pre_in_table.Facts] (m : (ℓ : Loc Cert.Gather.nD Cert.Gather.τ Cert.Gather.sig) → Buf (Elt Bits) ℓ) : Prop :=
  ∀ c : Dev Cert.Gather.nD,
    (Cert.Pre_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_Gathered [hPre_in_table : Cert.Pre_in_table.Facts] (m : (ℓ : Loc Cert.Gathered.nD Cert.Gathered.τ Cert.Gathered.sig) → Buf (Elt Bits) ℓ) : Prop :=
  ∀ c : Dev Cert.Gathered.nD,
    (Cert.Pre_in_table.fn (F := Bits) (m ((c.tc : Thread Cert.Gathered.nD Cert.Gathered.τ).loc Cert.Gathered.main_arg0)) (m ((c.tc : Thread Cert.Gathered.nD Cert.Gathered.τ).loc Cert.Gathered.main_arg1))) = (fun _ => 1#1)

def Pre_Argmin (m : (ℓ : Loc Cert.Argmin.nD Cert.Argmin.τ Cert.Argmin.sig) → Buf (Elt Bits) ℓ) : Prop :=
  True

def Pre_ArgminIdeal (m : (ℓ : Loc Cert.ArgminIdeal.nD Cert.ArgminIdeal.τ Cert.ArgminIdeal.sig) → Buf (Elt Ideal) ℓ) : Prop :=
  True

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_in_table : Cert.Pre_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_Gathered [hGathered : Cert.Gathered.Facts] [hPre_in_table : Cert.Pre_in_table.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0)

def quiescent_Argmin [hArgmin : Cert.Argmin.Facts] : Prop :=
  ∀ (m : (ℓ : Loc Cert.Argmin.nD Cert.Argmin.τ Cert.Argmin.sig) → Buf (Elt Bits) ℓ) (g : Dev Cert.Argmin.nD → PrngReg), Pre_Argmin m →
    θ_run (Cert.Argmin.defs (F := Bits)) (onTc (τ := Cert.Argmin.τ) (Cert.Argmin.main (F := Bits))) ⟨m, fun _ => 0, g⟩ (fun r => (∀ c : Dev Cert.Argmin.nD,
      r.2.mem ((c.tc : Thread Cert.Argmin.nD Cert.Argmin.τ).loc Cert.Argmin.main_arg0) = m ((c.tc : Thread Cert.Argmin.nD Cert.Argmin.τ).loc Cert.Argmin.main_arg0)
      ∧ r.2.mem ((c.tc : Thread Cert.Argmin.nD Cert.Argmin.τ).loc Cert.Argmin.main_arg1) = m ((c.tc : Thread Cert.Argmin.nD Cert.Argmin.τ).loc Cert.Argmin.main_arg1)
      ∧ r.2.mem ((c.tc : Thread Cert.Argmin.nD Cert.Argmin.τ).loc Cert.Argmin.main_arg2) = m ((c.tc : Thread Cert.Argmin.nD Cert.Argmin.τ).loc Cert.Argmin.main_arg2))
      ∧ r.2.sem = fun _ => 0)

def quiescent_ArgminIdeal [hArgminIdeal : Cert.ArgminIdeal.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1)
      ∧ r.2.mem ((c.tc : Thread Cert.ArgminIdeal.nD Cert.ArgminIdeal.τ).loc Cert.ArgminIdeal.main_arg2) = m ((c.tc : Thread Cert.ArgminIdeal.nD Cert.ArgminIdeal.τ).loc Cert.ArgminIdeal.main_arg2))
      ∧ r.2.sem = fun _ => 0)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Gather_Gathered [hGather : Cert.Gather.Facts] [hGathered : Cert.Gathered.Facts] [hPre_in_table : Cert.Pre_in_table.Facts] : Prop :=
  ∀ (m : (ℓ : Loc Cert.Gather.nD Cert.Gather.τ Cert.Gather.sig) → Buf (Elt Bits) ℓ) (g : Dev Cert.Gather.nD → PrngReg)
    (m' : (ℓ : Loc Cert.Gathered.nD Cert.Gathered.τ Cert.Gathered.sig) → Buf (Elt Bits) ℓ) (g' : Dev Cert.Gathered.nD → PrngReg), Pre_Gather m →
    (∀ c : Dev Cert.Gather.nD,
      m' ((c.tc : Thread Cert.Gathered.nD Cert.Gathered.τ).loc Cert.Gathered.main_arg0) = m ((c.tc : Thread Cert.Gather.nD Cert.Gather.τ).loc Cert.Gather.main_arg0)
      ∧ m' ((c.tc : Thread Cert.Gathered.nD Cert.Gathered.τ).loc Cert.Gathered.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Gathered.defs (F := Bits)) (onTc (τ := Cert.Gathered.τ) (Cert.Gathered.main (F := Bits))) ⟨m', fun _ => 0, g'⟩ (fun r => ∀ c : Dev Cert.Gathered.nD,
          r.2.mem ((c.tc : Thread Cert.Gathered.nD Cert.Gathered.τ).loc Cert.Gathered.main_v0) = v0 c
          ∧ r.2.mem ((c.tc : Thread Cert.Gathered.nD Cert.Gathered.τ).loc Cert.Gathered.main_arg0) = m' ((c.tc : Thread Cert.Gathered.nD Cert.Gathered.τ).loc Cert.Gathered.main_arg0)
          ∧ r.2.mem ((c.tc : Thread Cert.Gathered.nD Cert.Gathered.τ).loc Cert.Gathered.main_arg1) = m' ((c.tc : Thread Cert.Gathered.nD Cert.Gathered.τ).loc Cert.Gathered.main_arg1))

def preserves_Argmin_ArgminIdeal : Prop :=
  True

def Claim : Prop :=
  ∃ (hKernelIdeal : Cert.KernelIdeal.Facts) (hReferenceIdeal : Cert.ReferenceIdeal.Facts) (hGather : Cert.Gather.Facts) (hGathered : Cert.Gathered.Facts) (hArgmin : Cert.Argmin.Facts) (hArgminIdeal : Cert.ArgminIdeal.Facts) (hPre_finite : Cert.Pre_finite.Facts) (hPre_in_table : Cert.Pre_in_table.Facts),
    quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_in_table := hPre_in_table)
    ∧ quiescent_Gathered (hGathered := hGathered) (hPre_in_table := hPre_in_table)
    ∧ quiescent_Argmin (hArgmin := hArgmin)
    ∧ quiescent_ArgminIdeal (hArgminIdeal := hArgminIdeal)
    ∧ algebraic_KernelIdeal_ReferenceIdeal (hKernelIdeal := hKernelIdeal) (hReferenceIdeal := hReferenceIdeal) (hPre_finite := hPre_finite)
    ∧ bitexact_Gather_Gathered (hGather := hGather) (hGathered := hGathered) (hPre_in_table := hPre_in_table)
    ∧ preserves_Argmin_ArgminIdeal
-- ==== Pre_finite.lean ====
abbrev S16x1024x64 : Shape := ⟨3, ![16, 1024, 64]⟩
abbrev S1024x64 : Shape := ⟨2, ![1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x1024x64 .f32) (main_arg1 : FVec F S1024x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_in_table.lean ====
abbrev S1024x128 : Shape := ⟨2, ![1024, 128]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S1024x128 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1024#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== KernelIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S64x1024 : Shape := ⟨2, ![64, 1024]⟩
abbrev S16384x1 : Shape := ⟨2, ![16384, 1]⟩
abbrev S8x1x1 : Shape := ⟨3, ![8, 1, 1]⟩
abbrev S2048x64 : Shape := ⟨2, ![2048, 64]⟩
abbrev S2048x1 : Shape := ⟨2, ![2048, 1]⟩
abbrev S1x1x1 : Shape := ⟨3, ![1, 1, 1]⟩
abbrev S2048 : Shape := ⟨1, ![2048]⟩
abbrev S2048x1024 : Shape := ⟨2, ![2048, 1024]⟩
abbrev S1024 : Shape := ⟨1, ![1024]⟩
abbrev S1x1024 : Shape := ⟨2, ![1, 1024]⟩
abbrev S1x2048x1 : Shape := ⟨3, ![1, 2048, 1]⟩
abbrev S1 : Shape := ⟨1, ![1]⟩
abbrev S1x1 : Shape := ⟨2, ![1, 1]⟩
abbrev S1024x128 : Shape := ⟨2, ![1024, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S16x1024x128 : Shape := ⟨3, ![16, 1024, 128]⟩
abbrev S16x1024 : Shape := ⟨2, ![16, 1024]⟩

abbrev nBuf : Table → Nat
  | .hbm => 20
  | .local .tc .vmem => 8
  | .local .scVector .vmem => 2
  | _ => 0

abbrev bufTy : (tb : Table) → Fin (nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S_, .f32⟩
  | .hbm, ⟨4, _⟩ => ⟨S1024x64, .f32⟩
  | .hbm, ⟨5, _⟩ => ⟨S1024x64, .f32⟩
  | .hbm, ⟨6, _⟩ => ⟨S64x1024, .f32⟩
  | .hbm, ⟨7, _⟩ => ⟨S16384x1, .i32⟩
  | .hbm, ⟨8, _⟩ => ⟨S8x1x1, .f32⟩
  | .hbm, ⟨9, _⟩ => ⟨S_, .f32⟩
  | .hbm, ⟨10, _⟩ => ⟨S1024x64, .f32⟩
  | .hbm, ⟨11, _⟩ => ⟨S1024x128, .f32⟩
  | .hbm, ⟨12, _⟩ => ⟨S16384, .i32⟩
  | .hbm, ⟨13, _⟩ => ⟨S16384x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x1024x128, .f32⟩
  | .hbm, ⟨19, _⟩ => ⟨S16x1024, .i32⟩
  | .local .tc .vmem, ⟨0, _⟩ => ⟨S2048x64, .f32⟩
  | .local .tc .vmem, ⟨1, _⟩ => ⟨S2048x64, .f32⟩
  | .local .tc .vmem, ⟨2, _⟩ => ⟨S1024x64, .f32⟩
  | .local .tc .vmem, ⟨3, _⟩ => ⟨S64x1024, .f32⟩
  | .local .tc .vmem, ⟨4, _⟩ => ⟨S2048x1, .i32⟩
  | .local .tc .vmem, ⟨5, _⟩ => ⟨S2048x1, .i32⟩
  | .local .tc .vmem, ⟨6, _⟩ => ⟨S1x1x1, .f32⟩
  | .local .tc .vmem, ⟨7, _⟩ => ⟨S1x1x1, .f32⟩
  | .local .scVector .vmem, ⟨0, _⟩ => ⟨S512, .i32⟩
  | .local .scVector .vmem, ⟨1, _⟩ => ⟨S512x128, .f32⟩
  | _, _ => ⟨S16x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v6_scv : Ref sig .scVector := ⟨.hbm, 11, rfl⟩
abbrev main_v7_scv : Ref sig .scVector := ⟨.hbm, 12, rfl⟩
abbrev main_v8_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16x1024x128 : Shape := ⟨3, ![16, 1024, 128]⟩
abbrev S16x1024 : Shape := ⟨2, ![16, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x64, .f32⟩
  | .hbm, ⟨9, _⟩ => ⟨S16384x64, .f32⟩
  | .hbm, ⟨10, _⟩ => ⟨S64x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x64, .f32⟩
  | .hbm, ⟨44, _⟩ => ⟨S16384x64, .i1⟩
  | .hbm, ⟨45, _⟩ => ⟨S_, .f32⟩
  | .hbm, ⟨46, _⟩ => ⟨S16384x64, .f32⟩
  | .hbm, ⟨47, _⟩ => ⟨S16384x64, .f32⟩
  | .hbm, ⟨48, _⟩ => ⟨S16x1024x64, .f32⟩
  | .hbm, ⟨49, _⟩ => ⟨S16x1024x64, .f32⟩
  | .hbm, ⟨50, _⟩ => ⟨S16x1024x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x1024x64, .f32⟩
  | .hbm, ⟨58, _⟩ => ⟨S16x1024x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16x1024x64, .f32⟩
  | .hbm, ⟨65, _⟩ => ⟨S16x1024x64, .f32⟩
  | .hbm, ⟨66, _⟩ => ⟨S_, .f32⟩
  | .hbm, ⟨67, _⟩ => ⟨S16x1024x64, .f32⟩
  | .hbm, ⟨68, _⟩ => ⟨S16x1024x128, .f32⟩
  | .hbm, ⟨69, _⟩ => ⟨S16x1024, .i32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩

abbrev nD : Nat := 1
abbrev τ : Topo := Topo.v7x

variable {F : FTy → Type} [FloatOps F]
-- ==== Gather.lean ====
abbrev S1024x128 : Shape := ⟨2, ![1024, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1024x128, .f32⟩
  | .hbm, ⟨1, _⟩ => ⟨S16384, .i32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S1024x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Gathered.lean ====
abbrev S1024x128 : Shape := ⟨2, ![1024, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Argmin.lean ====
abbrev S16384x64 : Shape := ⟨2, ![16384, 64]⟩
abbrev S1024x64 : Shape := ⟨2, ![1024, 64]⟩
abbrev S64x1024 : Shape := ⟨2, ![64, 1024]⟩
abbrev S16384x1 : Shape := ⟨2, ![16384, 1]⟩
abbrev S8x1x1 : Shape := ⟨3, ![8, 1, 1]⟩
abbrev S2048x64 : Shape := ⟨2, ![2048, 64]⟩
abbrev S2048x1 : Shape := ⟨2, ![2048, 1]⟩
abbrev S1x1x1 : Shape := ⟨3, ![1, 1, 1]⟩
abbrev S2048 : Shape := ⟨1, ![2048]⟩
abbrev S2048x1024 : Shape := ⟨2, ![2048, 1024]⟩
abbrev S1024 : Shape := ⟨1, ![1024]⟩
abbrev S1x1024 : Shape := ⟨2, ![1, 1024]⟩
abbrev S1x2048x1 : Shape := ⟨3, ![1, 2048, 1]⟩
abbrev S1 : Shape := ⟨1, ![1]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S64x1024, .f32⟩
  | .hbm, ⟨3, _⟩ => ⟨S16384x1, .i32⟩
  | .hbm, ⟨4, _⟩ => ⟨S8x1x1, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S64x1024, .f32⟩
  | .local _ .vmem, ⟨4, _⟩ => ⟨S2048x1, .i32⟩
  | .local _ .vmem, ⟨5, _⟩ => ⟨S2048x1, .i32⟩
  | .local _ .vmem, ⟨6, _⟩ => ⟨S1x1x1, .f32⟩
  | .local _ .vmem, ⟨7, _⟩ => ⟨S1x1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.Common.lean ====
/-
  The rows a table names: what the SparseCore call leaves in its result, as one function of the table's and the
  index list's contents, over literal shapes so that every program of the certificate shares it.
-/
module

public import Idealize.ShloMosaic.Lib.ValueIdxCore

@[expose] public section

noncomputable section

namespace Cert.Proof

open Idealize.ShloMosaic
open Idealize.ShloMosaic.ValueIdx

/-- Row `i[n]` of the table `x` at row `n`; an entry beyond the table is read modulo its length. -/
def rowsOf {α : Type} (x : (⟨2, ![1024, 128]⟩ : Shape).Idx → α) (i : (⟨1, ![16384]⟩ : Shape).Idx → BitVec 32) :
    (⟨2, ![16384, 128]⟩ : Shape).Idx → α :=
  fun j => x (ix2 (⟨(i (ix1 (⟨(j 0).val, (j 0).isLt⟩ : Fin 16384))).toNat % 1024, Nat.mod_lt _ (by decide)⟩ : Fin 1024) (⟨(j 1).val, (j 1).isLt⟩ : Fin 128))

end Cert.Proof

end
-- ==== Proof.Take.lean ====
/-
  `jnp.take` of rows, as the reference prints it: the index below zero wrapped, the range test over the wrapped index, the
  gather of rows, and the fill where the test fails. With every index naming a row it is the table's rows at the indices.
-/
module

public import proofs.«01_k».proof.Proof.Common
public import Idealize.ShloMosaic.Lib.ReduceAll
public import Idealize.ShloMosaic.Lib.WordCmp
public import Idealize.ShloMosaic.Lib.StableHlo.Predicate

@[expose] public section

noncomputable section

namespace Cert.Proof

open Idealize.ShloMosaic
open Idealize.ShloMosaic.ValueIdx
open Idealize.ShloMosaic.StableHlo.Predicate

/-- The dimension numbers of a take of whole rows: the table's first axis indexed and dropped, its second kept. -/
abbrev rowDims (K n C : ℕ) (wf : GatherDims.WF ⟨2, ![K, C]⟩ ⟨2, ![n, 1]⟩ ⟨2, ![n, C]⟩ [1] [0] [] [0] [] 1 ![1, C]) :
    GatherDims ⟨2, ![K, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- A gather of rows reads, at (p, q), column q of the row the p-th index names, clamped into the table. -/
theorem gather_rows {α : Type} {K n C w : ℕ} (wf) (x : (⟨2, ![K, C]⟩ : Shape).Idx → α) (idx : IVec ⟨2, ![n, 1]⟩ w)
    (p : Fin n) (q : Fin C) (hK : 0 < K) :
    Host.gather (rowDims K n C wf) x idx (ix2 p q) = x (ix2 ⟨min (idx (ix2 p 0)).toInt.toNat (K - 1), by omega⟩ q) := by
  unfold Host.gather
  congr 1
  funext a
  apply Fin.ext
  match a with
  | ⟨0, _⟩ =>
    have hs : (rowDims K n C wf).siIdx (ix2 p q) ⟨List.idxOf (0 : Fin 2) (rowDims K n C wf).startIndexMap,
        List.idxOf_lt_length_iff.2 (List.mem_singleton.mpr rfl)⟩ = ix2 p 0 := by
      funext b
      match b with
      | ⟨0, _⟩ => rfl
      | ⟨1, _⟩ => rfl
    have e : (rowDims K n C wf).start (ix2 p q) idx 0 = min (idx (ix2 p 0)).toInt.toNat (K - 1) := by
      unfold GatherDims.start
      rw [dif_pos (List.mem_singleton.mpr rfl), hs]
      rfl
    exact e
  | ⟨1, _⟩ =>
    show 0 + 0 + q.val = q.val
    omega

/-- The printed take over a table of 1024 rows, every index naming one. -/
theorem take_rows {α : Type} {n C : ℕ} (wf) (x : (⟨2, ![1024, C]⟩ : Shape).Idx → α) (i : IVec ⟨1, ![n]⟩ 32)
    (fill : (⟨2, ![n, C]⟩ : Shape).Idx → α) (hi : ∀ j, (i j).toNat < 1024)
    (b0 : (⟨0, ![]⟩ : Shape).BroadcastsInDim ⟨1, ![n]⟩ ![]) (b1 : (⟨1, ![n]⟩ : Shape).BroadcastsInDim ⟨2, ![n, 1]⟩ ![0])
    (b2 : (⟨0, ![]⟩ : Shape).BroadcastsInDim ⟨2, ![n, 1]⟩ ![]) (b3 : (⟨1, ![1]⟩ : Shape).BroadcastsInDim ⟨2, ![1, 1]⟩ ![1])
    (b4 : (⟨2, ![1, 1]⟩ : Shape).BroadcastsInDim ⟨2, ![n, 1]⟩ ![0, 1]) (b5 : (⟨1, ![n]⟩ : Shape).BroadcastsInDim ⟨2, ![n, C]⟩ ![0])
    (hr : (⟨2, ![n, 1]⟩ : Shape).ReducesTo [1] ⟨1, ![n]⟩) (h0 : 0 < (⟨0, ![]⟩ : Shape).numel) (p : Fin n) (q : Fin C) :
    select (broadcastInDim ⟨2, ![n, C]⟩ ![0] b5 (Host.reduce IntOp.andi
        (andi (cmpi .sge (broadcastInDim ⟨2, ![n, 1]⟩ ![0] b1 (select (cmpi .slt i (broadcastInDim ⟨1, ![n]⟩ ![] b0 (constantI ⟨0, ![]⟩ 32 0#32))) (addi i (broadcastInDim ⟨1, ![n]⟩ ![] b0 (constantI ⟨0, ![]⟩ 32 1024#32))) i))
            (broadcastInDim ⟨2, ![n, 1]⟩ ![] b2 (constantI ⟨0, ![]⟩ 32 0#32)))
          (cmpi .sle (broadcastInDim ⟨2, ![n, 1]⟩ ![0] b1 (select (cmpi .slt i (broadcastInDim ⟨1, ![n]⟩ ![] b0 (constantI ⟨0, ![]⟩ 32 0#32))) (addi i (broadcastInDim ⟨1, ![n]⟩ ![] b0 (constantI ⟨0, ![]⟩ 32 1024#32))) i))
            (broadcastInDim ⟨2, ![n, 1]⟩ ![0, 1] b4 (broadcastInDim ⟨2, ![1, 1]⟩ ![1] b3 (constantI ⟨1, ![1]⟩ 32 1023#32)))))
        (constantI ⟨0, ![]⟩ 1 1#1) hr h0))
      (Host.gather (rowDims 1024 n C wf) x (broadcastInDim ⟨2, ![n, 1]⟩ ![0] b1 (select (cmpi .slt i (broadcastInDim ⟨1, ![n]⟩ ![] b0 (constantI ⟨0, ![]⟩ 32 0#32))) (addi i (broadcastInDim ⟨1, ![n]⟩ ![] b0 (constantI ⟨0, ![]⟩ 32 1024#32))) i)))
      fill (ix2 p q)
    = x (ix2 ⟨(i (ix1 p)).toNat, hi _⟩ q) := by
  have hw : select (cmpi .slt i (broadcastInDim ⟨1, ![n]⟩ ![] b0 (constantI ⟨0, ![]⟩ 32 0#32))) (addi i (broadcastInDim ⟨1, ![n]⟩ ![] b0 (constantI ⟨0, ![]⟩ 32 1024#32))) i = i := by
    funext j
    have hz : IntOp.cmpi .slt (i j) 0#32 = 0#1 := by
      have hlt : (i j).toNat < 2 ^ 31 := lt_trans (hi j) (by decide)
      have : ¬ (IntOp.cmpi .slt (i j) 0#32 = 1#1) := by
        rw [slt_iff_toNat hlt (by decide)]
        show ¬ _ < 0
        omega
      generalize IntOp.cmpi .slt (i j) 0#32 = b at this ⊢
      revert this; revert b; decide
    show Scalar.select (IntOp.cmpi .slt (i j) 0#32) _ (i j) = i j
    rw [hz]; rfl
  rw [hw]
  have hcol : ∀ p' : Fin n, broadcastInDim ⟨2, ![n, 1]⟩ ![0] b1 i (ix2 p' 0) = i (ix1 p') := fun p' => by
    unfold broadcastInDim
    congr 1
    funext a
    match a with
    | ⟨0, _⟩ =>
      apply Fin.ext
      show (if h1 : n = 1 then (⟨0, _⟩ : Fin n) else ⟨p'.val, _⟩).val = p'.val
      split
      · show 0 = p'.val
        have := p'.isLt; omega
      · rfl
  have hred : ∀ j, Host.reduce IntOp.andi
        (andi (cmpi .sge (broadcastInDim ⟨2, ![n, 1]⟩ ![0] b1 i) (broadcastInDim ⟨2, ![n, 1]⟩ ![] b2 (constantI ⟨0, ![]⟩ 32 0#32)))
          (cmpi .sle (broadcastInDim ⟨2, ![n, 1]⟩ ![0] b1 i) (broadcastInDim ⟨2, ![n, 1]⟩ ![0, 1] b4 (broadcastInDim ⟨2, ![1, 1]⟩ ![1] b3 (constantI ⟨1, ![1]⟩ 32 1023#32)))))
        (constantI ⟨0, ![]⟩ 1 1#1) hr h0 j = 1#1 := fun j => by
    refine Host.reduce_andi_one _ _ _ _ _ rfl fun k => ?_
    have hk : ∃ j', broadcastInDim ⟨2, ![n, 1]⟩ ![0] b1 i k = i j' := ⟨_, rfl⟩
    obtain ⟨j', hj⟩ := hk
    show IntOp.andi (IntOp.cmpi .sge (broadcastInDim ⟨2, ![n, 1]⟩ ![0] b1 i k) 0#32) (IntOp.cmpi .sle (broadcastInDim ⟨2, ![n, 1]⟩ ![0] b1 i k) 1023#32) = 1#1
    rw [hj]
    have hlt : (i j').toNat < 2 ^ 31 := lt_trans (hi j') (by decide)
    rw [(sge_iff_toNat hlt (by decide)).2 (Nat.zero_le _), (sle_iff_toNat hlt (by decide)).2 (by show _ ≤ 1023; have := hi j'; omega)]
    rfl
  show Scalar.select (Host.reduce IntOp.andi _ _ hr h0 _) _ _ = _
  rw [hred]
  show Host.gather _ _ _ (ix2 p q) = _
  rw [gather_rows wf x _ p q (by decide)]
  congr 2
  apply Fin.ext
  show min (broadcastInDim ⟨2, ![n, 1]⟩ ![0] b1 i (ix2 p 0)).toInt.toNat 1023 = (i (ix1 p)).toNat
  rw [hcol, toInt_eq_toNat_of_lt (lt_trans (hi _) (by decide))]
  have := hi (ix1 p)
  simp only [Int.toNat_natCast]
  omega

end Cert.Proof

end
-- ==== Proof.Gather.Tile.lean ====
/-
  The SparseCore call of `Gather`, one vector subcore's task and its launch set-up. Task `(c, s)` owns the 512 entries
  of the index list from `1024 s + 512 c` on and the same rows of the result; it reads the whole table, of which each of
  the 32 tasks holds one share. Its run fetches its entries into its index scratch, gathers the rows they name into its
  row scratch and copies those out, so its rows of the result end at the table's rows the list names (`rowsOf`).
-/
module

public import proofs.«01_k».proof.Defs
public import proofs.«01_k».proof.Proof.Common
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Gather
public import proofs.«01_k».proof.Proof.Gen.Gather.Skeleton

@[expose] public section

noncomputable section

namespace Cert.Proof.GatherRun

open Cert.Gather Cert.Gather.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "xV" => (Memref.whole Cert.Gather.main_arg0_scv : Memref Cert.Gather.sig Kind.scVector Space.hbm Cert.Gather.S1024x128 EltTy.f32)
local notation "iV" => (Memref.whole Cert.Gather.main_arg1_scv : Memref Cert.Gather.sig Kind.scVector Space.hbm Cert.Gather.S16384 EltTy.i32)
local notation "oV" => (Memref.whole Cert.Gather.main_v0_scv : Memref Cert.Gather.sig Kind.scVector Space.hbm Cert.Gather.S16384x128 EltTy.f32)
local notation "sV" => (Memref.whole Cert.Gather.cc0_scratch0 : Memref Cert.Gather.sig Kind.scVector Space.vmem Cert.Gather.S512 EltTy.i32)
local notation "rV" => (Memref.whole Cert.Gather.cc0_scratch1 : Memref Cert.Gather.sig Kind.scVector Space.vmem Cert.Gather.S512x128 EltTy.f32)

theorem idiv : 32 ∣ S16384.size 0 := ⟨512, rfl⟩
theorem odiv : 32 ∣ S16384x128.size 0 := ⟨512, rfl⟩
/-- The `w`-th of the 32 runs of entries, and of rows. -/
abbrev iPart (w : Fin 32) : Rect S16384 := Rect.part (s := S16384) (a₀ := 0) idiv w
abbrev oPart (w : Fin 32) : Rect S16384x128 := Rect.part (s := S16384x128) (a₀ := 0) odiv w
abbrev iSet (w : Fin 32) : Finset S16384.Idx := ((iV).view.slice (iPart w)).set
abbrev oSet (w : Fin 32) : Finset S16384x128.Idx := ((oV).view.slice (oPart w)).set
/-- Task `w`'s share of the table. -/
abbrev xq (w : Fin 32) : PosShare TreeShare := pieceOf fullShare 32 (by decide) w

/-- The task on vector subcore `s` of SparseCore `c` is number `2 s + c`. -/
abbrev wid (c : Fin 2) (s : Fin 16) : Fin 32 := ⟨2 * s.val + c.val, by omega⟩

variable [FloatOps F]
-- the contents the call finds: the table's, the index list's, the result's
variable (fx : (d : Dev nD) → Buf (Elt F) (xLoc d)) (fi : (d : Dev nD) → Buf (Elt F) (iLoc d)) (fo : (d : Dev nD) → Buf (Elt F) (oLoc d))

/-- What the call leaves in its result. -/
abbrev out (d : Dev nD) : Buf (Elt F) (oLoc d) := rowsOf (α := F .f32) (fx d) (fi d)

/-! ## What the handshakes carry -/

abbrev taskIn (d : Dev nD) (w : Fin 32) : sProp 𝕄 :=
  iprop((iLoc d ↦[iSet w]{fullShare} fi d) ∗ (xLoc d ↦{xq w} fx d) ∗ (oLoc d ↦[oSet w]{fullShare} fo d))
abbrev taskOut (d : Dev nD) (w : Fin 32) : sProp 𝕄 :=
  iprop((iLoc d ↦[iSet w]{fullShare} fi d) ∗ (xLoc d ↦{xq w} fx d) ∗ (oLoc d ↦[oSet w]{fullShare} out fx fi d))

/-- A SparseCore is handed its sixteen tasks' pieces and hands them back with the result's rows written. -/
def P : (K (F := F)).Pay (nD := nD) (Val := Elt F) (Name := ℕ) (U := UU) where
  st := fun q d c => match q with | 0 => bigSep Finset.univ fun i : Fin 16 => taskIn fx fi fo d (wid (Fin.cast nCore_zero c) i)
  dn := fun q d c => match q with | 0 => bigSep Finset.univ fun i : Fin 16 => taskOut fx fi d (wid (Fin.cast nCore_zero c) i)
  go := fun q d c i => match q with | 0 => taskIn fx fi fo d (wid (Fin.cast nCore_zero c) (Fin.cast nSub_zero i))
  td := fun q d c i => match q with | 0 => taskOut fx fi d (wid (Fin.cast nCore_zero c) (Fin.cast nSub_zero i))
  x := fun _ _ => iprop(emp)

instance P_storable : (P (F := F) fx fi fo).IsStorable where
  st q d c := match q with
    | 0 => (inferInstance : BI.Storable (upEmb : UEmb _ 𝕄) (bigSep Finset.univ fun i : Fin 16 => taskIn fx fi fo d (wid (Fin.cast nCore_zero c) i)))
  dn q d c := match q with
    | 0 => (inferInstance : BI.Storable (upEmb : UEmb _ 𝕄) (bigSep Finset.univ fun i : Fin 16 => taskOut fx fi d (wid (Fin.cast nCore_zero c) i)))
  go q d c i := match q with
    | 0 => (inferInstance : BI.Storable (upEmb : UEmb _ 𝕄) (taskIn fx fi fo d (wid (Fin.cast nCore_zero c) (Fin.cast nSub_zero i))))
  td q d c i := match q with
    | 0 => (inferInstance : BI.Storable (upEmb : UEmb _ 𝕄) (taskOut fx fi d (wid (Fin.cast nCore_zero c) (Fin.cast nSub_zero i))))

/-- What the call asks of the list: every entry names a row of the table. -/
def InTable : Prop := ∀ (d : Dev nD) (j : S16384.Idx), (fi d j : BitVec 32).toNat < 1024

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wid (Fin.cast bound_zero (L 0)) (Fin.cast bound_one (L 1))

abbrev iRectK (L : grid0.Coords) : Rect S16384 := Rect.unit (s := S16384) (k0_off1 L) S512.size (k0_off1_inb L)
abbrev oRectK (L : grid0.Coords) : Rect S16384x128 := Rect.unit (s := S16384x128) (k0_off2 L) S512x128.size (k0_off2_inb L)
/-- The task's entries, its rows of the result and the whole table, as the task addresses them. -/
abbrev iK (L : grid0.Coords) : Memref sig .scVector .hbm S512 .i32 := (iV).slice (iRectK L) (fun _ => rfl)
abbrev oK (L : grid0.Coords) : Memref sig .scVector .hbm S512x128 .f32 := (oV).slice (oRectK L) (fun _ => rfl)
abbrev xK : Memref sig .scVector .hbm S1024x128 .f32 := (xV).slice (Rect.unit (s := S1024x128) ![0, 0] S1024x128.size inb_S1024x128_S1024x128_0_0) (fun _ => rfl)

omit [FloatOps F] in
theorem iRectK_eq : iRectK L = iPart (wL L) := by
  unfold iRectK iPart Rect.part Rect.block
  congr 1 <;> funext a
  · rw [k0_off1_eq]
    match a with
    | 0 =>
      show 1024 * (L 1).val + 512 * (L 0).val = (2 * (L 1).val + (L 0).val) * 512
      omega
  · match a with
    | 0 => simp [Shape.partSize]
omit [FloatOps F] in
theorem oRectK_eq : oRectK L = oPart (wL L) := by
  unfold oRectK oPart Rect.part Rect.block
  congr 1 <;> funext a
  · rw [k0_off2_eq]
    match a with
    | 0 =>
      show 1024 * (L 1).val + 512 * (L 0).val = (2 * (L 1).val + (L 0).val) * 512
      omega
    | 1 => simp [Shape.partIx, Shape.partSize]
  · match a with
    | 0 => simp [Shape.partSize]
    | 1 => simp [Shape.partSize]

omit [FloatOps F] in
theorem set_iK : (iK L).view.set = iSet (wL L) := by
  show ((iV).view.slice (iRectK L)).set = ((iV).view.slice (iPart (wL L))).set
  exact iRectK_eq L ▸ rfl
omit [FloatOps F] in
theorem set_oK : (oK L).view.set = oSet (wL L) := by
  show ((oV).view.slice (oRectK L)).set = ((oV).view.slice (oPart (wL L))).set
  exact oRectK_eq L ▸ rfl

omit [FloatOps F] in
theorem pts_iK (f : Buf (Elt F) (iLoc d)) :
    ((iK L).view.loc (V d (cV L) (jV L)) ↦[(iK L).view.set]{fullShare} f : sProp 𝕄) = iLoc d ↦[iSet (wL L)]{fullShare} f := by
  rw [set_iK]
omit [FloatOps F] in
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cA (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped0.sem)
abbrev cC (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

omit [FloatOps F] in
/-- The subcore's own buffers: its two scratches and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The list the gather reads: entry `x` of the scratch is the list's entry at the task's own place. -/
theorem list_read (fs : Buf (Elt F) ((V d (cV L) (jV L)).loc cc0_scratch0)) (x : S512.Idx) :
    (sV).view.read (Elt F) (View.write (Elt F) (sV).view fs ((iK L).view.read (Elt F) (fi d)) Finset.univ) x = fi d ((iRectK L).emb x) := by
  rw [View.write_whole_univ]
  simp only [Memref.view_whole, View.read_whole]
  exact (View.read_apply _ _).trans (cast_eq _ _)

omit [FloatOps F] in
theorem list_inb (hpre : InTable (F := F) fi) (fs : Buf (Elt F) ((V d (cV L) (jV L)).loc cc0_scratch0)) (pay : S512.Idx → Elt F .i32)
    (hpay : pay = (iK L).view.read (Elt F) (fi d)) :
    ∀ x, ((sV).view.read (Elt F) (View.write (Elt F) (sV).view fs pay Finset.univ) x).toNat < S1024x128.size gathers_S1024x128_S512x128.axis := by
  subst hpay; intro x
  rw [list_read]
  exact hpre d _

omit [FloatOps F] in
theorem emb_xK_val (y : S1024x128.Idx) (a : Fin 2) : ((xK).view.emb y a).val = (y a).val := by
  show (![0, 0] : Fin 2 → ℕ) a + 1 * (y a).val = _
  match a with
  | 0 => show 0 + 1 * _ = _; omega
  | 1 => show 0 + 1 * _ = _; omega
omit [FloatOps F] in
theorem emb_iRectK_val (y : S512.Idx) : ((iRectK L).emb y 0).val = 1024 * (L 1).val + 512 * (L 0).val + (y 0).val := by
  show k0_off1 L 0 + 1 * (y 0).val = _
  rw [k0_off1_eq]; show 1024 * (L 1).val + 512 * (L 0).val + 1 * _ = _; omega
omit [FloatOps F] in
theorem emb_oRectK_val0 (y : S512x128.Idx) : ((oRectK L).emb y 0).val = 1024 * (L 1).val + 512 * (L 0).val + (y 0).val := by
  show k0_off2 L 0 + 1 * (y 0).val = _
  rw [k0_off2_eq]; show 1024 * (L 1).val + 512 * (L 0).val + 1 * _ = _; omega
omit [FloatOps F] in
theorem emb_oRectK_val1 (y : S512x128.Idx) : ((oRectK L).emb y 1).val = (y 1).val := by
  show k0_off2 L 1 + 1 * (y 1).val = _
  rw [k0_off2_eq]; show 0 + 1 * _ = _; omega

omit [FloatOps F] in
/-- What the gather delivers: element `x` of the row scratch is the table's, at the row the task's entry names. -/
theorem rows_read (hpre : InTable (F := F) fi) (fs : Buf (Elt F) ((V d (cV L) (jV L)).loc cc0_scratch0))
    (hn) (hin) (x : S512x128.Idx) :
    SparseCore.gatherPayload gathers_S1024x128_S512x128 ((xK).view.read (Elt F) (fx d))
      (SparseCore.rows ((sV).view.read (Elt F) (View.write (Elt F) (sV).view fs ((iK L).view.read (Elt F) (fi d)) Finset.univ)) hn hin) x
      = out fx fi d ((oRectK L).emb x) := by
  unfold SparseCore.gatherPayload
  rw [View.read_apply]
  refine (cast_eq _ _).trans ?_
  show fx d ((xK).view.emb _) = fx d (ix2 _ _)
  congr 1
  funext b
  apply Fin.ext
  match b with
  | 0 =>
    refine (emb_xK_val _ 0).trans ?_
    refine (congrArg Fin.val (gathers_S1024x128_S512x128.idx_axis
      (SparseCore.rows ((sV).view.read (Elt F) (View.write (Elt F) (sV).view fs ((iK L).view.read (Elt F) (fi d)) Finset.univ)) hn hin) x)).trans ?_
    have hlt := hpre d (ix1 (⟨((oRectK L).emb x 0).val, ((oRectK L).emb x 0).isLt⟩ : Fin 16384))
    show ((sV).view.read (Elt F) (View.write (Elt F) (sV).view fs ((iK L).view.read (Elt F) (fi d)) Finset.univ)
        (S512.rowMajor.symm ((x 0).cast hn.symm))).toNat = (fi d (ix1 _)).toNat % 1024
    rw [Nat.mod_eq_of_lt hlt, list_read]
    congr 2
    funext a
    match a with
    | 0 =>
      apply Fin.ext
      have hr : ((S512.rowMajor.symm ((x 0).cast hn.symm)) 0).val = (x 0).val := by
        refine (Shape.rowMajor_val_one (d := ![512]) (S512.rowMajor.symm ((x 0).cast hn.symm))).symm.trans ?_
        exact congrArg Fin.val (Equiv.apply_symm_apply S512.rowMajor _)
      show ((iRectK L).emb _ 0).val = ((oRectK L).emb x 0).val
      rw [emb_iRectK_val, emb_oRectK_val0, hr]
  | 1 =>
    refine (emb_xK_val _ 1).trans ?_
    refine (gathers_S1024x128_S512x128.idx_of_ne
      (SparseCore.rows ((sV).view.read (Elt F) (View.write (Elt F) (sV).view fs ((iK L).view.read (Elt F) (fi d)) Finset.univ)) hn hin) x 1 (by decide)).trans ?_
    exact (emb_oRectK_val1 L x).symm

omit [FloatOps F] in
theorem written_at (f : Buf (Elt F) (oLoc d)) (pay : S512x128.Idx → Elt F .f32) (x : S512x128.Idx) :
    (oK L).view.writes (Elt F) f [⟨Rect.whole S512x128, pay⟩] ((oK L).view.emb x) = pay x := by
  have h := congrFun (View.read_writes_whole (Val := Elt F) (oK L).view f pay) x
  rw [View.read_apply] at h
  exact (cast_eq _ _).symm.trans h

set_option maxHeartbeats 4000000 in
theorem tile_body (hF : (K (F := F)).Facts) (hpre : InTable (F := F) fi) (O : CellTallies nD τ sig (HIx 1)) (W : Waits sig (HIx 1)) (hO : ∀ g, O g none = 0) :
    iprop(levAts (K (F := F)).L (K (F := F)).lev ∗ emp ∗ taskIn fx fi fo d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(taskOut fx fi d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hin := list_inb (F := F) fi d L hpre fs (tile_body.sl.dma0 fi d L) rfl
  sl_exec
  sl_step
  isplitl [Hi' Hx' Ho']
  · isplitl [Hi']; · iapply (Entails.of_eq (pts_iK (F := F) d L _)); iexact Hi'
    isplitl [Hx']; · iexact Hx'
    ihave Ho2 := (Entails.of_eq (pointsTo_congr (ℓ := (oK L).view.loc (V d (cV L) (jV L))) (q := fullShare) (I := (oK L).view.set) (g := out fx fi d)
      (fun j hj => by
        obtain ⟨x, -, rfl⟩ := Finset.mem_map.mp hj
        refine (written_at (F := F) d L (fo d) _ x).trans ?_
        delta tile_body.sl.dma0_1 tile_body.sl.gather0 tile_body.sl.dma0
        simp only [View.read_writes_whole]
        exact rows_read (F := F) fx fi d L hpre fs _ _ x))) $$ Ho'
    iapply (Entails.of_eq (pts_oK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InTable (F := F) fi) : (K (F := F)).TileObl (D (F := F)) 𝒱 (P fx fi fo) v₀ 0 := by
  intro d c i O W hO _ _
  simp only [show (P (F := F) fx fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fx fi fo d (coordsV ⟨_, hci.1⟩ ⟨_, hci.2⟩) hF hpre O W hO).trans (wp_mono frame _ _ fun _ => obl_post)

end Tile

/-! ## The arrays split over the 32 tasks, and join -/

omit [FloatOps F] in
theorem iSet_eq (w : Fin 32) : iSet w = (iPart w).set := by
  show ((View.whole (main_arg1_scv : Ref sig .scVector)).slice (iPart w)).set = _
  rw [View.set_slice]; exact Finset.map_refl
omit [FloatOps F] in
theorem oSet_eq (w : Fin 32) : oSet w = (oPart w).set := by
  show ((View.whole (main_v0_scv : Ref sig .scVector)).slice (oPart w)).set = _
  rw [View.set_slice]; exact Finset.map_refl

omit [FloatOps F] in
theorem iPts_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun v _ w _ h => by rw [iSet_eq, iSet_eq]; exact Rect.part_disjoint idiv h,
    show (Finset.univ : Finset (Fin 32)).biUnion iSet = Finset.univ from (Finset.biUnion_congr rfl fun w _ => iSet_eq w).trans (Rect.biUnion_part idiv)]
  try rfl
omit [FloatOps F] in
theorem oPts_split (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun v _ w _ h => by rw [oSet_eq, oSet_eq]; exact Rect.part_disjoint odiv h,
    show (Finset.univ : Finset (Fin 32)).biUnion oSet = Finset.univ from (Finset.biUnion_congr rfl fun w _ => oSet_eq w).trans (Rect.biUnion_part odiv)]
  try rfl
omit [FloatOps F] in
theorem xPts_split (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-- A pair (SparseCore, subcore) and its task's number. -/
def widEquiv : Fin 2 × Fin 16 ≃ Fin 32 where
  toFun p := wid p.1 p.2
  invFun w := (⟨w.val % 2, by omega⟩, ⟨w.val / 2, by omega⟩)
  left_inv p := by ext <;> simp [wid] <;> omega
  right_inv w := by ext; simp [wid]; omega

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv, bigSep_univ_prod]; rfl

/-- What the call takes is the index list, the table and the result; -/
theorem st0_eq (d : Dev nD) : (bigSep Finset.univ fun c : Fin ((K (F := F)).nCore 0) => (P fx fi fo).st 0 d c)
    = iprop((iLoc d ↦{fullShare} fi d) ∗ (xLoc d ↦{fullShare} fx d) ∗ oLoc d ↦{fullShare} fo d) := by
  rw [iPts_split, xPts_split, oPts_split, ← bigSep_sep', ← bigSep_sep', bigSep_wid]; rfl
/-- what it gives back is the same, the result at the rows the list names. -/
theorem dn0_eq (d : Dev nD) : (bigSep Finset.univ fun c : Fin ((K (F := F)).nCore 0) => (P fx fi fo).dn 0 d c)
    = iprop((iLoc d ↦{fullShare} fi d) ∗ (xLoc d ↦{fullShare} fx d) ∗ oLoc d ↦{fullShare} out fx fi d) := by
  rw [iPts_split, xPts_split, oPts_split, ← bigSep_sep', ← bigSep_sep', bigSep_wid]; rfl

theorem vecSplit : (K (F := F)).VecSplit' (P fx fi fo) 0 := by
  intro d c
  show (bigSep Finset.univ fun i : Fin 16 => taskIn fx fi fo d (wid (Fin.cast nCore_zero c) i)) ⊢ |={Set.univ}=> iprop(
      (bigSep Finset.univ fun i : Fin 16 => taskIn fx fi fo d (wid (Fin.cast nCore_zero c) i))
      ∗ ((bigSep Finset.univ fun i : Fin 16 => taskOut fx fi d (wid (Fin.cast nCore_zero c) i))
        -∗ bigSep Finset.univ fun i : Fin 16 => taskOut fx fi d (wid (Fin.cast nCore_zero c) i)))
  iintro H; imodintro
  isplitl [H]; · iexact H
  iintro H; iexact H

end Cert.Proof.GatherRun

end
-- ==== Proof.Gather.Run.lean ====
/-
  `Gather`'s launch: one SparseCore call from the argument arrays as launched, its run to the end, the arguments kept
  and the result at the rows the list names.
-/
module

public import proofs.«01_k».proof.Proof.Gather.Tile
public import proofs.«01_k».proof.Proof.Gen.Pre_in_table
public import Idealize.ShloMosaic.Lib.ReduceAll
public import Idealize.ShloMosaic.Lib.WordCmp

@[expose] public section

noncomputable section

namespace Cert.Proof.GatherRun

open Cert.Gather Cert.Gather.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The arrays as launched. -/
abbrev mx (d : Dev nD) : Buf (Elt F) (xLoc d) := m (xLoc d)
abbrev mi (d : Dev nD) : Buf (Elt F) (iLoc d) := m (iLoc d)
abbrev mo (d : Dev nD) : Buf (Elt F) (oLoc d) := m (oLoc d)
abbrev Pm : (K (F := F)).Pay (nD := nD) (Val := Elt F) (Name := ℕ) (U := UU) := P (mx m) (mi m) (mo m)

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_none]
  iempintro

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 :=
  iprop((iLoc d ↦{fullShare} mi m d) ∗ (xLoc d ↦{fullShare} mx m d) ∗ oLoc d ↦{fullShare} out (mx m) (mi m) d)

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := Pm m) κ d 0) $$ [Hst Hi Hx Ho Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq (mx m) (mi m) (mo m) d)) $$ Hdn
  imodintro
  isplitl [Hst]; · iexact Hst
  isplitr [Hb Hts]; · iexact Hdn'
  isplitl [Hb] <;> iassumption

def fq (d : Dev nD) (s' : Phys nD τ sig (Elt F)) : Prop :=
  (s'.mem.mem (iLoc d) = m (iLoc d) ∧ s'.mem.mem (xLoc d) = m (xLoc d)) ∧ s'.mem.mem (oLoc d) = out (mx m) (mi m) d

set_option maxRecDepth 16384 in
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := out (mx m) (mi m) d)) $$ [HSI Ho]
  · isplitl [HSI] <;> iassumption
  icases H with %h3
  ipureintro
  exact ⟨⟨funext fun i => h1 i (Finset.mem_univ i), funext fun i => h2 i (Finset.mem_univ i)⟩, funext fun i => h3 i (Finset.mem_univ i)⟩

def QC : PUnit × MemSt nD τ sig (Elt F) → Prop := fun r =>
  (∀ c : Dev nD, (r.2.mem (iLoc c) = m (iLoc c) ∧ r.2.mem (xLoc c) = m (xLoc c)) ∧ r.2.mem (oLoc c) = out (mx m) (mi m) c) ∧ r.2.sem = fun _ => 0

theorem run_main [∀ e, Nonempty (Elt F e)] (hpre : InTable (F := F) (mi m)) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (mx m) (mi m) (mo m) facts hpre)
    (fun q _ => match q with | 0 => SparseCore.Cfg.VecSplit.of_plain (vecSplit (mx m) (mi m) (mo m)))
    m ρ main (fun _ => iprop(emp)) (FIN m) (u₀ (F := F)) (sep_elim_left.trans (hu₀ m)) (hmain m ρ) (fq m) (hfin m) (QC m) (fun _ h hz => ⟨h, hz⟩)

/-- The precondition gives that every entry of the list names a row of the table: non-negative as a signed word it is its
    own value, below 1024. -/
instance : Cert.Pre_in_table.Facts := Cert.Pre_in_table.Gen.facts
instance : Subsingleton Cert.Pre_in_table.S_.Idx := ⟨fun _ _ => funext fun a => a.elim0⟩
theorem inTable_of_pre (m : (ℓ : Loc nD τ sig) → Buf (Elt Bits) ℓ) (h : Cert.Pre_Gather m) : InTable (F := Bits) (mi m) := by
  intro d j
  have e := h d
  have e0 := congrFun e (fun a => a.elim0)
  have e1 := Host.reduce_andi_all _ _ _ _ _ e0 j
  have e2 := (Idealize.ShloMosaic.WordCmp.andi_sge_zero_slt_ofNat (w := 32) (k := 1024) (by decide) (mi m d j)).symm.trans e1
  exact (Idealize.ShloMosaic.WordCmp.ofBool_decide_eq_one_iff _).mp e2

end Cert.Proof.GatherRun

end
-- ==== Proof.Gather.Value.lean ====
/-
  The SparseCore gather call against `jnp.take`: both end with the table's rows at the indices, bit for bit.
-/
module

public import proofs.«01_k».proof.Defs
public import proofs.«01_k».proof.Proof.Take
public import proofs.«01_k».proof.Proof.Gather.Run
public import proofs.«01_k».proof.Proof.Gen.Gathered.Run

@[expose] public section

noncomputable section

namespace Cert.Proof.GatherRun

open Idealize.ShloMosaic Idealize.SL.Sem
open Idealize.ShloMosaic.ValueIdx
open Cert.Gather

instance : Cert.Gathered.Facts := Cert.Gathered.Gen.facts

/-- The call runs, from a list in the table's range, its arguments unchanged and every counter back at zero. -/
theorem frame : Cert.quiescent_Gather := fun m g hp =>
  (θ_run _ _ _).mono (fun _ h => ⟨fun c => ⟨(h.1 c).1.2, (h.1 c).1.1⟩, h.2⟩) (run_main (F := Bits) m g (inTable_of_pre m hp))

/-- The reference runs, its arguments unchanged; it has no counters. -/
theorem frame_ref : Cert.quiescent_Gathered := fun m g _ =>
  (θ_run _ _ _).mono (fun r h => ⟨fun c => (h c).2, sem_eq_zero_of_no_sems (by decide) r.2⟩) (Cert.Gathered.Value.run (F := Bits) m g)

/-- The call and `jnp.take` end with the same rows. -/
theorem bitexact : Cert.bitexact_Gather_Gathered := fun m g m' g' hp harg => by
  have hin := inTable_of_pre m hp
  refine ⟨fun c => out (mx m) (mi m) c, (θ_run _ _ _).mono (fun _ h c => ⟨(h.1 c).2, (h.1 c).1.2, (h.1 c).1.1⟩) (run_main (F := Bits) m g hin),
    (θ_run _ _ _).mono (fun _ h c => ⟨(h c).1.trans ?_, (h c).2.1, (h c).2.2⟩) (Cert.Gathered.Value.run (F := Bits) m' g')⟩
  rw [(harg c).1, (harg c).2]
  funext j
  obtain ⟨p, q, rfl⟩ : ∃ (p : Fin 16384) (q : Fin 128), j = ix2 p q := ⟨j 0, j 1, eq_ix2 j⟩
  refine (take_rows _ (mx m c) (mi m c) _ (hin c) _ _ _ _ _ _ _ _ p q).trans ?_
  unfold out rowsOf
  congr 2
  exact Fin.ext (Nat.mod_eq_of_lt (hin c _)).symm

end Cert.Proof.GatherRun

end
-- ==== Proof.Whole.Tile.lean ====
/-
  The SparseCore call of `KernelIdeal`, one vector subcore's task and its launch set-up. Task `(c, s)` owns the 512 entries
  of the index list from `1024 s + 512 c` on and the same rows of the result; it reads the whole table, of which each of
  the 32 tasks holds one share. Its run fetches its entries into its index scratch, gathers the rows they name into its
  row scratch and copies those out, so its rows of the result end at the table's rows the list names (`rowsOf`).
-/
module

public import proofs.«01_k».proof.Defs
public import proofs.«01_k».proof.Proof.Common
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.WholeRun

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_v6
abbrev iLoc (d : Dev nD) : Loc nD τ sig := (SparseCore.T d).loc main_v7
abbrev oLoc (d : Dev nD) : Loc nD τ sig := (SparseCore.T d).loc main_v8

local notation "xV" => (Memref.whole Cert.KernelIdeal.main_v6_scv : Memref Cert.KernelIdeal.sig Kind.scVector Space.hbm Cert.KernelIdeal.S1024x128 EltTy.f32)
local notation "iV" => (Memref.whole Cert.KernelIdeal.main_v7_scv : Memref Cert.KernelIdeal.sig Kind.scVector Space.hbm Cert.KernelIdeal.S16384 EltTy.i32)
local notation "oV" => (Memref.whole Cert.KernelIdeal.main_v8_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

theorem idiv : 32 ∣ S16384.size 0 := ⟨512, rfl⟩
theorem odiv : 32 ∣ S16384x128.size 0 := ⟨512, rfl⟩
/-- The `w`-th of the 32 runs of entries, and of rows. -/
abbrev iPart (w : Fin 32) : Rect S16384 := Rect.part (s := S16384) (a₀ := 0) idiv w
abbrev oPart (w : Fin 32) : Rect S16384x128 := Rect.part (s := S16384x128) (a₀ := 0) odiv w
abbrev iSet (w : Fin 32) : Finset S16384.Idx := ((iV).view.slice (iPart w)).set
abbrev oSet (w : Fin 32) : Finset S16384x128.Idx := ((oV).view.slice (oPart w)).set
/-- Task `w`'s share of the table. -/
abbrev xq (w : Fin 32) : PosShare TreeShare := pieceOf fullShare 32 (by decide) w

/-- The task on vector subcore `s` of SparseCore `c` is number `2 s + c`. -/
abbrev wid (c : Fin 2) (s : Fin 16) : Fin 32 := ⟨2 * s.val + c.val, by omega⟩

variable [FloatOps F]
-- the contents the call finds: the table's, the index list's, the result's
variable (fx : (d : Dev nD) → Buf (Elt F) (xLoc d)) (fi : (d : Dev nD) → Buf (Elt F) (iLoc d)) (fo : (d : Dev nD) → Buf (Elt F) (oLoc d))

/-- What the call leaves in its result. -/
abbrev out (d : Dev nD) : Buf (Elt F) (oLoc d) := rowsOf (α := F .f32) (fx d) (fi d)

/-! ## What the handshakes carry -/

abbrev taskIn (d : Dev nD) (w : Fin 32) : sProp 𝕄 :=
  iprop((iLoc d ↦[iSet w]{fullShare} fi d) ∗ (xLoc d ↦{xq w} fx d) ∗ (oLoc d ↦[oSet w]{fullShare} fo d))
abbrev taskOut (d : Dev nD) (w : Fin 32) : sProp 𝕄 :=
  iprop((iLoc d ↦[iSet w]{fullShare} fi d) ∗ (xLoc d ↦{xq w} fx d) ∗ (oLoc d ↦[oSet w]{fullShare} out fx fi d))

/-- A SparseCore is handed its sixteen tasks' pieces and hands them back with the result's rows written. -/
def P : (K (F := F)).Pay (nD := nD) (Val := Elt F) (Name := ℕ) (U := UU) where
  st := fun q d c => match q with | 0 => bigSep Finset.univ fun i : Fin 16 => taskIn fx fi fo d (wid (Fin.cast nCore_zero c) i)
  dn := fun q d c => match q with | 0 => bigSep Finset.univ fun i : Fin 16 => taskOut fx fi d (wid (Fin.cast nCore_zero c) i)
  go := fun q d c i => match q with | 0 => taskIn fx fi fo d (wid (Fin.cast nCore_zero c) (Fin.cast nSub_zero i))
  td := fun q d c i => match q with | 0 => taskOut fx fi d (wid (Fin.cast nCore_zero c) (Fin.cast nSub_zero i))
  x := fun _ _ => iprop(emp)

instance P_storable : (P (F := F) fx fi fo).IsStorable where
  st q d c := match q with
    | 0 => (inferInstance : BI.Storable (upEmb : UEmb _ 𝕄) (bigSep Finset.univ fun i : Fin 16 => taskIn fx fi fo d (wid (Fin.cast nCore_zero c) i)))
  dn q d c := match q with
    | 0 => (inferInstance : BI.Storable (upEmb : UEmb _ 𝕄) (bigSep Finset.univ fun i : Fin 16 => taskOut fx fi d (wid (Fin.cast nCore_zero c) i)))
  go q d c i := match q with
    | 0 => (inferInstance : BI.Storable (upEmb : UEmb _ 𝕄) (taskIn fx fi fo d (wid (Fin.cast nCore_zero c) (Fin.cast nSub_zero i))))
  td q d c i := match q with
    | 0 => (inferInstance : BI.Storable (upEmb : UEmb _ 𝕄) (taskOut fx fi d (wid (Fin.cast nCore_zero c) (Fin.cast nSub_zero i))))

/-- What the call asks of the list: every entry names a row of the table. -/
def InTable : Prop := ∀ (d : Dev nD) (j : S16384.Idx), (fi d j : BitVec 32).toNat < 1024

/-! ## The task -/

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev wL (L : grid1.Coords) : Fin 32 := wid (Fin.cast bound_zero (L 0)) (Fin.cast bound_one (L 1))

abbrev iRectK (L : grid1.Coords) : Rect S16384 := Rect.unit (s := S16384) (k1_off1 L) S512.size (k1_off1_inb L)
abbrev oRectK (L : grid1.Coords) : Rect S16384x128 := Rect.unit (s := S16384x128) (k1_off2 L) S512x128.size (k1_off2_inb L)
/-- The task's entries, its rows of the result and the whole table, as the task addresses them. -/
abbrev iK (L : grid1.Coords) : Memref sig .scVector .hbm S512 .i32 := (iV).slice (iRectK L) (fun _ => rfl)
abbrev oK (L : grid1.Coords) : Memref sig .scVector .hbm S512x128 .f32 := (oV).slice (oRectK L) (fun _ => rfl)
abbrev xK : Memref sig .scVector .hbm S1024x128 .f32 := (xV).slice (Rect.unit (s := S1024x128) ![0, 0] S1024x128.size inb_S1024x128_S1024x128_0_0) (fun _ => rfl)

omit [FloatOps F] in
theorem iRectK_eq : iRectK L = iPart (wL L) := by
  unfold iRectK iPart Rect.part Rect.block
  congr 1 <;> funext a
  · rw [k1_off1_eq]
    match a with
    | 0 =>
      show 1024 * (L 1).val + 512 * (L 0).val = (2 * (L 1).val + (L 0).val) * 512
      omega
  · match a with
    | 0 => simp [Shape.partSize]
omit [FloatOps F] in
theorem oRectK_eq : oRectK L = oPart (wL L) := by
  unfold oRectK oPart Rect.part Rect.block
  congr 1 <;> funext a
  · rw [k1_off2_eq]
    match a with
    | 0 =>
      show 1024 * (L 1).val + 512 * (L 0).val = (2 * (L 1).val + (L 0).val) * 512
      omega
    | 1 => simp [Shape.partIx, Shape.partSize]
  · match a with
    | 0 => simp [Shape.partSize]
    | 1 => simp [Shape.partSize]

omit [FloatOps F] in
theorem set_iK : (iK L).view.set = iSet (wL L) := by
  show ((iV).view.slice (iRectK L)).set = ((iV).view.slice (iPart (wL L))).set
  exact iRectK_eq L ▸ rfl
omit [FloatOps F] in
theorem set_oK : (oK L).view.set = oSet (wL L) := by
  show ((oV).view.slice (oRectK L)).set = ((oV).view.slice (oPart (wL L))).set
  exact oRectK_eq L ▸ rfl

omit [FloatOps F] in
theorem pts_iK (f : Buf (Elt F) (iLoc d)) :
    ((iK L).view.loc (V d (cV L) (jV L)) ↦[(iK L).view.set]{fullShare} f : sProp 𝕄) = iLoc d ↦[iSet (wL L)]{fullShare} f := by
  rw [set_iK]
omit [FloatOps F] in
theorem pts_oK (f : Buf (Elt F) (oLoc d)) :
    ((oK L).view.loc (V d (cV L) (jV L)) ↦[(oK L).view.set]{fullShare} f : sProp 𝕄) = oLoc d ↦[oSet (wL L)]{fullShare} f := by
  rw [set_oK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cA (d : Dev nD) (c : Fin τ.nSC) (i : Fin τ.nSub) : GSem nD τ sig := (V d c i, .dma cc1_scratch2.sem)
abbrev cB (d : Dev nD) (c : Fin τ.nSC) (i : Fin τ.nSub) : GSem nD τ sig := (V d c i, .dma cc1_scoped0.sem)
abbrev cC (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped1.sem : SemLoc sig).isScoped .scVector = true; decide⟩⟩⟩)]

omit [FloatOps F] in
/-- The subcore's own buffers: its two scratches and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
/-- The list the gather reads: entry `x` of the scratch is the list's entry at the task's own place. -/
theorem list_read (fs : Buf (Elt F) ((V d (cV L) (jV L)).loc cc1_scratch0)) (x : S512.Idx) :
    (sV).view.read (Elt F) (View.write (Elt F) (sV).view fs ((iK L).view.read (Elt F) (fi d)) Finset.univ) x = fi d ((iRectK L).emb x) := by
  rw [View.write_whole_univ]
  simp only [Memref.view_whole, View.read_whole]
  exact (View.read_apply _ _).trans (cast_eq _ _)

omit [FloatOps F] in
theorem list_inb (hpre : InTable (F := F) fi) (fs : Buf (Elt F) ((V d (cV L) (jV L)).loc cc1_scratch0)) (pay : S512.Idx → Elt F .i32)
    (hpay : pay = (iK L).view.read (Elt F) (fi d)) :
    ∀ x, ((sV).view.read (Elt F) (View.write (Elt F) (sV).view fs pay Finset.univ) x).toNat < S1024x128.size gathers_S1024x128_S512x128.axis := by
  subst hpay; intro x
  rw [list_read]
  exact hpre d _

omit [FloatOps F] in
theorem emb_xK_val (y : S1024x128.Idx) (a : Fin 2) : ((xK).view.emb y a).val = (y a).val := by
  show (![0, 0] : Fin 2 → ℕ) a + 1 * (y a).val = _
  match a with
  | 0 => show 0 + 1 * _ = _; omega
  | 1 => show 0 + 1 * _ = _; omega
omit [FloatOps F] in
theorem emb_iRectK_val (y : S512.Idx) : ((iRectK L).emb y 0).val = 1024 * (L 1).val + 512 * (L 0).val + (y 0).val := by
  show k1_off1 L 0 + 1 * (y 0).val = _
  rw [k1_off1_eq]; show 1024 * (L 1).val + 512 * (L 0).val + 1 * _ = _; omega
omit [FloatOps F] in
theorem emb_oRectK_val0 (y : S512x128.Idx) : ((oRectK L).emb y 0).val = 1024 * (L 1).val + 512 * (L 0).val + (y 0).val := by
  show k1_off2 L 0 + 1 * (y 0).val = _
  rw [k1_off2_eq]; show 1024 * (L 1).val + 512 * (L 0).val + 1 * _ = _; omega
omit [FloatOps F] in
theorem emb_oRectK_val1 (y : S512x128.Idx) : ((oRectK L).emb y 1).val = (y 1).val := by
  show k1_off2 L 1 + 1 * (y 1).val = _
  rw [k1_off2_eq]; show 0 + 1 * _ = _; omega

omit [FloatOps F] in
/-- What the gather delivers: element `x` of the row scratch is the table's, at the row the task's entry names. -/
theorem rows_read (hpre : InTable (F := F) fi) (fs : Buf (Elt F) ((V d (cV L) (jV L)).loc cc1_scratch0))
    (hn) (hin) (x : S512x128.Idx) :
    SparseCore.gatherPayload gathers_S1024x128_S512x128 ((xK).view.read (Elt F) (fx d))
      (SparseCore.rows ((sV).view.read (Elt F) (View.write (Elt F) (sV).view fs ((iK L).view.read (Elt F) (fi d)) Finset.univ)) hn hin) x
      = out fx fi d ((oRectK L).emb x) := by
  unfold SparseCore.gatherPayload
  rw [View.read_apply]
  refine (cast_eq _ _).trans ?_
  show fx d ((xK).view.emb _) = fx d (ix2 _ _)
  congr 1
  funext b
  apply Fin.ext
  match b with
  | 0 =>
    refine (emb_xK_val _ 0).trans ?_
    refine (congrArg Fin.val (gathers_S1024x128_S512x128.idx_axis
      (SparseCore.rows ((sV).view.read (Elt F) (View.write (Elt F) (sV).view fs ((iK L).view.read (Elt F) (fi d)) Finset.univ)) hn hin) x)).trans ?_
    have hlt := hpre d (ix1 (⟨((oRectK L).emb x 0).val, ((oRectK L).emb x 0).isLt⟩ : Fin 16384))
    show ((sV).view.read (Elt F) (View.write (Elt F) (sV).view fs ((iK L).view.read (Elt F) (fi d)) Finset.univ)
        (S512.rowMajor.symm ((x 0).cast hn.symm))).toNat = (fi d (ix1 _)).toNat % 1024
    rw [Nat.mod_eq_of_lt hlt, list_read]
    congr 2
    funext a
    match a with
    | 0 =>
      apply Fin.ext
      have hr : ((S512.rowMajor.symm ((x 0).cast hn.symm)) 0).val = (x 0).val := by
        refine (Shape.rowMajor_val_one (d := ![512]) (S512.rowMajor.symm ((x 0).cast hn.symm))).symm.trans ?_
        exact congrArg Fin.val (Equiv.apply_symm_apply S512.rowMajor _)
      show ((iRectK L).emb _ 0).val = ((oRectK L).emb x 0).val
      rw [emb_iRectK_val, emb_oRectK_val0, hr]
  | 1 =>
    refine (emb_xK_val _ 1).trans ?_
    refine (gathers_S1024x128_S512x128.idx_of_ne
      (SparseCore.rows ((sV).view.read (Elt F) (View.write (Elt F) (sV).view fs ((iK L).view.read (Elt F) (fi d)) Finset.univ)) hn hin) x 1 (by decide)).trans ?_
    exact (emb_oRectK_val1 L x).symm

omit [FloatOps F] in
theorem written_at (f : Buf (Elt F) (oLoc d)) (pay : S512x128.Idx → Elt F .f32) (x : S512x128.Idx) :
    (oK L).view.writes (Elt F) f [⟨Rect.whole S512x128, pay⟩] ((oK L).view.emb x) = pay x := by
  have h := congrFun (View.read_writes_whole (Val := Elt F) (oK L).view f pay) x
  rw [View.read_apply] at h
  exact (cast_eq _ _).symm.trans h

set_option maxHeartbeats 4000000 in
theorem tile_body (hF : (K (F := F)).Facts) (hpre : InTable (F := F) fi) (O : CellTallies nD τ sig (HIx 1)) (W : Waits sig (HIx 1)) (hO : ∀ g, O g none = 0) :
    iprop(levAts (K (F := F)).L (K (F := F)).lev ∗ emp ∗ taskIn fx fi fo d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L xV (Memref.isWhole_whole _) iV (Memref.isWhole_whole _) oV (Memref.isWhole_whole _)
            sV (Memref.isWhole_whole _) rV (Memref.isWhole_whole _) cc1_scratch2 cc1_scoped0 cc1_scoped1)
          fun _ => iprop(taskOut fx fi d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hin := list_inb (F := F) fi d L hpre fs (tile_body.sl.dma0 fi d L) rfl
  sl_exec
  sl_step
  isplitl [Hi' Hx' Ho']
  · isplitl [Hi']; · iapply (Entails.of_eq (pts_iK (F := F) d L _)); iexact Hi'
    isplitl [Hx']; · iexact Hx'
    ihave Ho2 := (Entails.of_eq (pointsTo_congr (ℓ := (oK L).view.loc (V d (cV L) (jV L))) (q := fullShare) (I := (oK L).view.set) (g := out fx fi d)
      (fun j hj => by
        obtain ⟨x, -, rfl⟩ := Finset.mem_map.mp hj
        refine (written_at (F := F) d L (fo d) _ x).trans ?_
        delta tile_body.sl.dma0_1 tile_body.sl.gather0 tile_body.sl.dma0
        simp only [View.read_writes_whole]
        exact rows_read (F := F) fx fi d L hpre fs _ _ x))) $$ Ho'
    iapply (Entails.of_eq (pts_oK (F := F) d L _)); iexact Ho2
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          xV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InTable (F := F) fi) : (K (F := F)).TileObl (D (F := F)) 𝒱 (P fx fi fo) v₀ 0 := by
  intro d c i O W hO _ _
  simp only [show (P (F := F) fx fi fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fx fi fo d (coordsV ⟨_, hci.1⟩ ⟨_, hci.2⟩) hF hpre O W hO).trans (wp_mono frame _ _ fun _ => obl_post)

end Tile

/-! ## The arrays split over the 32 tasks, and join -/

omit [FloatOps F] in
theorem iSet_eq (w : Fin 32) : iSet w = (iPart w).set := by
  show ((View.whole (main_v7_scv : Ref sig .scVector)).slice (iPart w)).set = _
  rw [View.set_slice]; exact Finset.map_refl
omit [FloatOps F] in
theorem oSet_eq (w : Fin 32) : oSet w = (oPart w).set := by
  show ((View.whole (main_v8_scv : Ref sig .scVector)).slice (oPart w)).set = _
  rw [View.set_slice]; exact Finset.map_refl

omit [FloatOps F] in
theorem iPts_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun v _ w _ h => by rw [iSet_eq, iSet_eq]; exact Rect.part_disjoint idiv h,
    show (Finset.univ : Finset (Fin 32)).biUnion iSet = Finset.univ from (Finset.biUnion_congr rfl fun w _ => iSet_eq w).trans (Rect.biUnion_part idiv)]
  try rfl
omit [FloatOps F] in
theorem oPts_split (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun v _ w _ h => by rw [oSet_eq, oSet_eq]; exact Rect.part_disjoint odiv h,
    show (Finset.univ : Finset (Fin 32)).biUnion oSet = Finset.univ from (Finset.biUnion_congr rfl fun w _ => oSet_eq w).trans (Rect.biUnion_part odiv)]
  try rfl
omit [FloatOps F] in
theorem xPts_split (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-- A pair (SparseCore, subcore) and its task's number. -/
def widEquiv : Fin 2 × Fin 16 ≃ Fin 32 where
  toFun p := wid p.1 p.2
  invFun w := (⟨w.val % 2, by omega⟩, ⟨w.val / 2, by omega⟩)
  left_inv p := by ext <;> simp [wid] <;> omega
  right_inv w := by ext; simp [wid]; omega

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv, bigSep_univ_prod]; rfl

/-- What the call takes is the index list, the table and the result; -/
theorem st0_eq (d : Dev nD) : (bigSep Finset.univ fun c : Fin ((K (F := F)).nCore 0) => (P fx fi fo).st 0 d c)
    = iprop((iLoc d ↦{fullShare} fi d) ∗ (xLoc d ↦{fullShare} fx d) ∗ oLoc d ↦{fullShare} fo d) := by
  rw [iPts_split, xPts_split, oPts_split, ← bigSep_sep', ← bigSep_sep', bigSep_wid]; rfl
/-- what it gives back is the same, the result at the rows the list names. -/
theorem dn0_eq (d : Dev nD) : (bigSep Finset.univ fun c : Fin ((K (F := F)).nCore 0) => (P fx fi fo).dn 0 d c)
    = iprop((iLoc d ↦{fullShare} fi d) ∗ (xLoc d ↦{fullShare} fx d) ∗ oLoc d ↦{fullShare} out fx fi d) := by
  rw [iPts_split, xPts_split, oPts_split, ← bigSep_sep', ← bigSep_sep', bigSep_wid]; rfl

theorem vecSplit : (K (F := F)).VecSplit' (P fx fi fo) 0 := by
  intro d c
  show (bigSep Finset.univ fun i : Fin 16 => taskIn fx fi fo d (wid (Fin.cast nCore_zero c) i)) ⊢ |={Set.univ}=> iprop(
      (bigSep Finset.univ fun i : Fin 16 => taskIn fx fi fo d (wid (Fin.cast nCore_zero c) i))
      ∗ ((bigSep Finset.univ fun i : Fin 16 => taskOut fx fi d (wid (Fin.cast nCore_zero c) i))
        -∗ bigSep Finset.univ fun i : Fin 16 => taskOut fx fi d (wid (Fin.cast nCore_zero c) i)))
  iintro H; imodintro
  isplitl [H]; · iexact H
  iintro H; iexact H

end Cert.Proof.WholeRun

end
-- ==== Proof.Whole.Region.lean ====
/-
  The TensorCore call of `KernelIdeal` as a region inside a program that also runs a SparseCore call: the body at a
  symbolic grid point, the contents it leaves in the two results' blocks, and the region's step from the unscoped
  buffers at any contents to the same with the two results written. The core still owes the SparseCores their starts
  while the region runs; the region's own waits sit at level 0, below all of that.
-/
module

public import proofs.«01_k».proof.Proof.Whole.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArrays
public import Idealize.ShloMosaic.Lib.Pipeline.Frame

@[expose] public section

set_option maxRecDepth 16384

noncomputable section

namespace Cert.Proof.WholeRun

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the buffers' contents when the region is entered
variable (W : Dev nD → Valuation τ sig (Elt F))

/-- A TensorCore buffer's contents there. -/
abbrev at' (c : Dev nD) (b : Ref sig .tc) : Buf (Elt F) ((c : Thread nD τ).loc b) := W c (Proc.devRef .tc b)

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (at' W c (Pipeline.arrRef spec0 w))

/-! ## The body -/

abbrev rZ : Rect S2048x64 := Rect.unit (s := S2048x64) ![0, 0] S2048x64.size inb_S2048x64_S2048x64_0_0
abbrev rA : Rect S1024x64 := Rect.unit (s := S1024x64) ![0, 0] S1024x64.size inb_S1024x64_S1024x64_0_0
abbrev rB : Rect S64x1024 := Rect.unit (s := S64x1024) ![0, 0] S64x1024.size inb_S64x1024_S64x1024_0_0
abbrev rI : Rect S2048x1 := Rect.unit (s := S2048x1) ![0, 0] S2048x1.size inb_S2048x1_S2048x1_0_0
abbrev rP : Rect S1x1x1 := Rect.unit (s := S1x1x1) ![0, 0, 0] S1x1x1.size inb_S1x1x1_S1x1x1_0_0_0

/-- What one point leaves in the index block and in the partial sum's block, from the three input blocks. -/
def idxBlk (x0 : Vec F S2048x64 .f32) (x1 : Vec F S1024x64 .f32) (x2 : Vec F S64x1024 .f32) : Vec F S2048x1 .i32 :=
  View.canon [⟨rI, k0_pay3 (View.ld x0 rZ) (View.ld x1 rA) (View.ld x2 rB)⟩]
def sumBlk (x0 : Vec F S2048x64 .f32) (x1 : Vec F S1024x64 .f32) (x2 : Vec F S64x1024 .f32) : Vec F S1x1x1 .f32 :=
  View.canon [⟨rP, k0_pay4 (View.ld x0 rZ) (View.ld x1 rA) (View.ld x2 rB)⟩]

/-- Each is written whole by its one store. -/
theorem idxBlk_covered (p : Vec F S2048x1 .i32) (y : S2048x1.Idx) : ∃ pc ∈ ([⟨rI, p⟩] : List (View.Piece (Elt F) S2048x1 .i32)), y ∈ pc.1.set :=
  View.cover_of_tiled [⟨rI, p⟩] S2048x1.size (by rfl) y
theorem sumBlk_covered (p : Vec F S1x1x1 .f32) (y : S1x1x1.Idx) : ∃ pc ∈ ([⟨rP, p⟩] : List (View.Piece (Elt F) S1x1x1 .f32)), y ∈ pc.1.set :=
  View.cover_of_tiled [⟨rP, p⟩] S1x1x1.size (by rfl) y

set_option maxHeartbeats 1000000 in
theorem body_run (c : Dev nD) (E : Set ℕ) (i : grid0.Coords) (arg1 : Memref sig .tc .vmem S2048x64 .f32) (h1 : arg1.IsWhole) (arg2 : Memref sig .tc .vmem S1024x64 .f32) (h2 : arg2.IsWhole)
    (arg3 : Memref sig .tc .vmem S64x1024 .f32) (h3 : arg3.IsWhole) (arg4 : Memref sig .tc .vmem S2048x1 .i32) (h4 : arg4.IsWhole) (arg5 : Memref sig .tc .vmem S1x1x1 .f32) (h5 : arg5.IsWhole)
    (x0 : Vec F S2048x64 .f32) (x1 : Vec F S1024x64 .f32) (x2 : Vec F S64x1024 .f32) (Q : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (idxBlk x0 x1 x2) ∗ owns (c : Thread nD τ) arg5 fullShare (sumBlk x0 x1 x2)) -∗ Q ⟨⟩))
      ⊢ wp frame (wpE (defs₀ (F := F)) Variants.none c none) E (cc0__vq_body i arg1 h1 arg2 h2 arg3 h3 arg4 h4 arg5 h5) Q := by
  simp only [cc0__vq_body_eq_skeleton]; unfold cc0__vq_body_skel
  unfold owns
  iintro ⟨⟨%f0, %e0, H0⟩, ⟨%f1, %e1, H1⟩, ⟨%f2, %e2, H2⟩, ⟨%_, %f3, -, H3⟩, ⟨%_, %f4, -, H4⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (idxBlk_covered _)
  iexists _; isplitr
  swap; · iexact H4
  ipureintro
  exact View.read_writes_eq_canon _ _ _ (sumBlk_covered _)

/-! ## The region's proof data -/

/-- The core owes every SparseCore start it has not made, throughout; what it has waited for sits at level 0. -/
def dat (c : Dev nD) : Dat τ (Elt F) (HIx 1) ℕ UU ℕ cfg0 c where
  A w := at' W c (Pipeline.arrRef spec0 w)
  after w t := match w with
    | ⟨0, _⟩ => blk W c 0 t
    | ⟨1, _⟩ => blk W c 1 t
    | ⟨2, _⟩ => blk W c 2 t
    | ⟨3, _⟩ => idxBlk (blk W c 0 t) (blk W c 1 t) (blk W c 2 t)
    | ⟨4, _⟩ => sumBlk (blk W c 0 t) (blk W c 1 t) (blk W c 2 t)
  Φ _ := Pipeline.scopedRest spec0 c
  q _ := fullShare
  owed _ := (K (F := F)).Otc c 0
  recorded _ := {p | (K (F := F)).lev (N := 1) ((c : Thread nD τ), p.1) p.2 ≤ 0}

abbrev dats (_ : Fin 1) (c : Dev nD) : Dat τ (Elt F) (HIx 1) ℕ UU ℕ cfg0 c := dat W c

theorem dat_A (c : Dev nD) (w : Fin cfg0.W) : (dat W c).A w = at' W c (Pipeline.arrRef spec0 w) := by dsimp only [dat]
theorem dat_after0 (c : Dev nD) (t : Fin cfg0.N) : (dat W c).after 0 t = blk W c 0 t := by dsimp only [dat]
theorem dat_after1 (c : Dev nD) (t : Fin cfg0.N) : (dat W c).after 1 t = blk W c 1 t := by dsimp only [dat]
theorem dat_after2 (c : Dev nD) (t : Fin cfg0.N) : (dat W c).after 2 t = blk W c 2 t := by dsimp only [dat]
theorem dat_after3 (c : Dev nD) (t : Fin cfg0.N) : (dat W c).after 3 t = idxBlk (blk W c 0 t) (blk W c 1 t) (blk W c 2 t) := by dsimp only [dat]
theorem dat_after4 (c : Dev nD) (t : Fin cfg0.N) : (dat W c).after 4 t = sumBlk (blk W c 0 t) (blk W c 1 t) (blk W c 2 t) := by dsimp only [dat]

/-- Each input's staging buffer holds its block at every point. -/
theorem dat_before0 (c : Dev nD) (t : Fin cfg0.N) (d) : (dat W c).before 0 t d = blk W c 0 t :=
  ((dat W c).before_in_eq_fetched 0 rfl (fun _ => rfl) (fun _ _ _ => rfl) (fun t => by rw [dat_after0]; unfold Dat.blockOf blk; rw [dat_A]; try rfl) t d).trans
    (by unfold Dat.fetched Dat.blockOf blk; rw [dat_A]; try rfl)
theorem dat_before1 (c : Dev nD) (t : Fin cfg0.N) (d) : (dat W c).before 1 t d = blk W c 1 t :=
  ((dat W c).before_in_eq_fetched 1 rfl (fun _ => rfl) (fun _ _ _ => rfl) (fun t => by rw [dat_after1]; unfold Dat.blockOf blk; rw [dat_A]; try rfl) t d).trans
    (by unfold Dat.fetched Dat.blockOf blk; rw [dat_A]; try rfl)
theorem dat_before2 (c : Dev nD) (t : Fin cfg0.N) (d) : (dat W c).before 2 t d = blk W c 2 t :=
  ((dat W c).before_in_eq_fetched 2 rfl (fun _ => rfl) (fun _ _ _ => rfl) (fun t => by rw [dat_after2]; unfold Dat.blockOf blk; rw [dat_A]; try rfl) t d).trans
    (by unfold Dat.fetched Dat.blockOf blk; rw [dat_A]; try rfl)

def before (c : Dev nD) (t : Fin cfg0.N) : sProp 𝕄 :=
  iprop((dat W c).Φ t.castSucc ∗ (dat W c).owesAt none t.castSucc
    ∗ (∃ d, owns (c : Thread nD τ) (st0_0 t) fullShare ((dat W c).before 0 t d)) ∗ (∃ d, owns (c : Thread nD τ) (st0_1 t) fullShare ((dat W c).before 1 t d))
    ∗ (∃ d, owns (c : Thread nD τ) (st0_2 t) fullShare ((dat W c).before 2 t d)) ∗ (∃ d, owns (c : Thread nD τ) (st0_3 t) fullShare ((dat W c).before 3 t d))
    ∗ (∃ d, owns (c : Thread nD τ) (st0_4 t) fullShare ((dat W c).before 4 t d)))

def behind (c : Dev nD) (t : Fin cfg0.N) : sProp 𝕄 :=
  iprop((dat W c).Φ t.succ ∗ (dat W c).owesAt none t.succ
    ∗ owns (c : Thread nD τ) (st0_0 t) fullShare ((dat W c).after 0 t) ∗ owns (c : Thread nD τ) (st0_1 t) fullShare ((dat W c).after 1 t)
    ∗ owns (c : Thread nD τ) (st0_2 t) fullShare ((dat W c).after 2 t) ∗ owns (c : Thread nD τ) (st0_3 t) fullShare ((dat W c).after 3 t)
    ∗ owns (c : Thread nD τ) (st0_4 t) fullShare ((dat W c).after 4 t))

theorem point_run (c : Dev nD) (t : Fin cfg0.N) :
    before W c t ⊢ wp frame (wpE (defs₀ (F := F)) Variants.none c none) Set.univ (bodyAt0 t) (fun _ => behind W c t) := by
  unfold before behind bodyAt0
  simp only [dat_before0, dat_before1, dat_before2]
  rw [show (dat W c).Φ t.succ = (dat W c).Φ t.castSucc from rfl, show (dat W c).owesAt none t.succ = (dat W c).owesAt none t.castSucc from rfl,
    dat_after0, dat_after1, dat_after2, dat_after3, dat_after4]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (blk W c 0 t) (blk W c 1 t) (blk W c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := rfl

theorem body_ok (c : Dev nD) : BodyObligation (dat (F := F) W c) (defs₀ (F := F)) Variants.none none Set.univ := fun t => by
  rw [bigSep_W0, bigSep_W0, row_eq]
  exact triple_restated (point_run W c t) rfl .rfl fun _ => .rfl

end Cert.Proof.WholeRun

end
-- ==== Proof.Whole.Seg.lean ====
/-
  The TensorCore call of `KernelIdeal` as one step of its @main: entered with the unscoped buffers at any contents `W` and
  the core owing the SparseCores their starts, left with the same, the two results' buffers at what the eight points wrote.
-/
module

public import proofs.«01_k».proof.Proof.Whole.Region

@[expose] public section

set_option maxRecDepth 16384

noncomputable section

namespace Cert.Proof.WholeRun

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg OwnSemFacts ucRefs arrRefs arrRef pin)

variable {F : FTy → Type} [FloatOps F]

local notation "𝕄" => MT nD τ sig (HIx 1) (Elt F) ℕ UU ℕ

variable (W : Dev nD → Valuation τ sig (Elt F))

abbrev PC := pcfgs (F := F)
abbrev adm : (p : Fin 1) → (PC (F := F) p).Adm := fun p => (cfgs p).toPCfg_adm

/-- The contents the region leaves: the indices in the first result, the eight partial sums in the second. -/
def behindW (c : Dev nD) : Valuation τ sig (Elt F) :=
  Function.update (Function.update (W c) (Proc.devRef .tc main_v4_0) ((dat W c).arrAt 3 cfg0.N)) (Proc.devRef .tc main_v4_1) ((dat W c).arrAt 4 cfg0.N)

theorem behindW_idx (c : Dev nD) : behindW W c (Proc.devRef .tc main_v4_0) = (dat W c).arrAt 3 cfg0.N := by
  unfold behindW
  rw [Function.update_of_ne (by decide), Function.update_self]
theorem behindW_sum (c : Dev nD) : behindW W c (Proc.devRef .tc main_v4_1) = (dat W c).arrAt 4 cfg0.N := by
  unfold behindW
  rw [Function.update_self]
theorem behindW_else (c : Dev nD) (b : DevRef τ sig) (h0 : b ≠ Proc.devRef .tc main_v4_0) (h1 : b ≠ Proc.devRef .tc main_v4_1) : behindW W c b = W c b := by
  unfold behindW
  rw [Function.update_of_ne h1, Function.update_of_ne h0]

/-- What the core owes the SparseCores while the region runs, all it has waited for sitting at level 0. -/
abbrev owing (c : Dev nD) : sProp 𝕄 :=
  iprop(∃ Y, ⌜(K (F := F)).WBelow (N := 1) (SparseCore.T c) Y 0⌝ ∗ owes (SparseCore.T c) ((K (F := F)).Otc c 0) Y)

theorem share_eq (c : Dev nD) : ∀ w, (dats W 0 c).share w = fullShare := (dat W c).share_full fun _ => rfl

theorem arrays_in (c : Dev nD) : ((dats W 0 c).arrays ((dats W 0 c).arrAt · 0) : sProp 𝕄) = StableHlo.held (c.tc : Thread nD τ) (arrRefs spec0) (W c) :=
  Pipeline.arrays_held (PC (F := F)) adm (dats W) 0 launch0.toP c (share_eq W c) _ (W c) (fun w => dat_A W c w)

theorem arrays_out (c : Dev nD) : ((dats W 0 c).arrays ((dats W 0 c).arrAt · cfg0.N) : sProp 𝕄) = StableHlo.held (c.tc : Thread nD τ) (arrRefs spec0) (behindW W c) :=
  Pipeline.arrays_held (PC (F := F)) adm (dats W) 0 launch0.toP c (share_eq W c) _ (behindW W c) (fun w => match w with
    | ⟨0, _⟩ => ((dat W c).arrAt_in 0 rfl _).trans ((dat_A W c 0).trans (behindW_else W c (Proc.devRef .tc main_v0) (by decide) (by decide)).symm)
    | ⟨1, _⟩ => ((dat W c).arrAt_in 1 rfl _).trans ((dat_A W c 1).trans (behindW_else W c (Proc.devRef .tc main_v2) (by decide) (by decide)).symm)
    | ⟨2, _⟩ => ((dat W c).arrAt_in 2 rfl _).trans ((dat_A W c 2).trans (behindW_else W c (Proc.devRef .tc main_v3) (by decide) (by decide)).symm)
    | ⟨3, _⟩ => (behindW_idx W c).symm
    | ⟨4, _⟩ => (behindW_sum W c).symm)

theorem arr_sub : arrRefs (τ := τ) spec0 ⊆ ucRefs τ sig := Pipeline.arrRefs_sub_ucRefs spec0 winFacts0.arr_unscoped

theorem mem_arr (b : Ref sig .tc) (w : Fin 5) (h : arrRef spec0 w = b) : (Proc.devRef .tc b : DevRef τ sig) ∈ arrRefs (τ := τ) spec0 :=
  Finset.mem_map.mpr ⟨b, Finset.mem_image.mpr ⟨w, Finset.mem_univ _, h⟩, rfl⟩

theorem rest_eq (c : Dev nD) : (StableHlo.held (c.tc : Thread nD τ) (ucRefs τ sig \ arrRefs spec0) (W c) : sProp 𝕄)
    = StableHlo.held (c.tc : Thread nD τ) (ucRefs τ sig \ arrRefs spec0) (behindW W c) :=
  StableHlo.held_congr _ fun b hb => (behindW_else W c b
    (fun h => (Finset.mem_sdiff.mp hb).2 (h ▸ mem_arr main_v4_0 3 rfl)) (fun h => (Finset.mem_sdiff.mp hb).2 (h ▸ mem_arr main_v4_1 4 rfl))).symm

def seg : RegionSeg (PC (F := F)) adm (dats W) none (defs₀ (F := F)) 𝒱₀ (K (F := F)).L (K (F := F)).lev 0 where
  win := winFacts0.to₀
  block_pos := block_pos0
  stage_whole := stage_whole0
  K := PEmpty
  osem k := k.elim
  ho := OwnSemFacts.none _
  hbody c := (body_ok W c).loose
  hwaits c := Pipeline.cellsWaits_of_cut (pin (PC (F := F)) adm) (dats W) none 0 c 0 ((K (F := F)).Otc c 0) (fun _ => rfl) (fun _ _ => Finset.mem_univ _)
    (fun _ _ => le_rfl) (fun g i h => ⟨Finset.mem_univ _, lt_of_lt_of_le (Nat.succ_pos _) (SparseCore.Cfg.lev_of_Otc_pos h)⟩)
  pre c := iprop(StableHlo.held (c.tc : Thread nD τ) (ucRefs τ sig) (W c) ∗ owing c)
  post c := iprop(StableHlo.held (c.tc : Thread nD τ) (ucRefs τ sig) (behindW W c) ∗ owing c)
  X _ := iprop(emp)
  Y _ := iprop(emp)
  Z c := StableHlo.held (c.tc : Thread nD τ) (ucRefs τ sig \ arrRefs spec0) (W c)
  hentry c := by
    rw [Pipeline.ownSems0_none, Pipeline.prefHeld_of_none _ rfl, StableHlo.held_sub_split _ arr_sub, ← arrays_in W c]
    iintro ⟨⟨⟨Ha, Hr⟩, HO⟩, -, -⟩
    imodintro
    isplitl [Ha]; · iexact Ha
    isplitr; · iempintro
    isplitl [HO]
    · unfold Dat.owesAt Pipeline.owesWithin
      icases HO with ⟨%Y, %hY, HO⟩
      iexists Y
      isplitr
      · ipureintro; exact fun p hp => Or.inl (hY p hp)
      iexact HO
    isplitr; · iempintro
    iexact Hr
  hin c := by
    show _ ⊢ Pipeline.scopedRest spec0 c
    iintro ⟨-, -, Hr⟩
    iexact Hr
  hout c := by
    rw [Pipeline.ownSems0_none]
    show Pipeline.scopedRest spec0 c ⊢ _
    iintro Hr
    isplitr; · iempintro
    isplitr; · iempintro
    iexact Hr
  hexit c := by
    rw [StableHlo.held_sub_split _ arr_sub, ← rest_eq W c, ← arrays_out W c]
    iintro ⟨Ha, HO, -, Hr⟩
    imodintro
    isplitl [Ha Hr]
    · isplitl [Ha]; · iexact Ha
      iexact Hr
    unfold Dat.owesAt Pipeline.owesWithin
    icases HO with ⟨%Y, %hY, HO⟩
    iexists Y
    isplitr
    · ipureintro
      intro p hp
      rcases hY hp with h | h
      · exact h
      · obtain ⟨w, s, rfl⟩ := h
        exact le_rfl
    iexact HO

theorem seg_pre (c : Dev nD) : (seg W).pre c = (iprop(StableHlo.held (c.tc : Thread nD τ) (ucRefs τ sig) (W c) ∗ owing c) : sProp 𝕄) := rfl
theorem seg_post (c : Dev nD) : (seg W).post c = (iprop(StableHlo.held (c.tc : Thread nD τ) (ucRefs τ sig) (behindW W c) ∗ owing c) : sProp 𝕄) := rfl

end Cert.Proof.WholeRun

end
-- ==== Proof.Whole.Run.lean ====
/-
  `KernelIdeal`'s launch: host operations, the TensorCore call, host operations, the SparseCore call from what those left,
  host operations. It runs to the end, every unscoped buffer of the TensorCore at the contents the steps compose to,
  given that the indices the TensorCore call leaves name rows of the table.
-/
module

public import proofs.«01_k».proof.Proof.Whole.Seg

@[expose] public section

set_option maxRecDepth 16384

noncomputable section

namespace Cert.Proof.WholeRun

open Cert.KernelIdeal Cert.KernelIdeal.Gen

open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs pin)

variable {F : FTy → Type} [FloatOps F]

local notation "𝕄" => MT nD τ sig (HIx 1) (Elt F) ℕ UU ℕ

/-! ## @main's host operations -/

abbrev opsA : List (HloOp τ sig (Elt F)) :=
  [ StableHlo.reshape main_arg0 main_v0 (rfl : (.f32 : EltTy) = .f32) shapeCasts_S16x1024x64_S16384x64,
    StableHlo.nullary main_cst (constant S_ .f32 0xC0000000#32),
    StableHlo.unary main_cst main_v1 (broadcastInDim S1024x64 ![] bcast_S_S1024x64 : (⟨S_, .f32⟩ : BufTy).Contents (Elt F) → (⟨S1024x64, .f32⟩ : BufTy).Contents (Elt F)),
    StableHlo.binary main_arg1 main_v1 main_v2 (mulf : (⟨S1024x64, .f32⟩ : BufTy).Contents (Elt F) → (⟨S1024x64, .f32⟩ : BufTy).Contents (Elt F) → (⟨S1024x64, .f32⟩ : BufTy).Contents (Elt F)),
    StableHlo.unary main_arg1 main_v3 ((transpose S64x1024 [1, 0] · transposes_S1024x64_S64x1024_1_0) : (⟨S1024x64, .f32⟩ : BufTy).Contents (Elt F) → (⟨S64x1024, .f32⟩ : BufTy).Contents (Elt F)) ]
abbrev opsB : List (HloOp τ sig (Elt F)) :=
  [ StableHlo.nullary main_cst_0 (constant S_ .f32 0x00000000#32),
    StableHlo.unary main_cst_0 main_v5 (broadcastInDim S1024x64 ![] bcast_S_S1024x64 : (⟨S_, .f32⟩ : BufTy).Contents (Elt F) → (⟨S1024x64, .f32⟩ : BufTy).Contents (Elt F)),
    StableHlo.binary main_arg1 main_v5 main_v6 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F)),
    StableHlo.reshape main_v4_0 main_v7 (rfl : (.i32 : EltTy) = .i32) shapeCasts_S16384x1_S16384 ]
abbrev opsC : List (HloOp τ sig (Elt F)) :=
  [ StableHlo.nullary main_cst_1 (constant S_ .f32 0x00000000#32),
    StableHlo.binary main_v4_1 main_cst_1 main_v9 ((fun x v => Host.reduceAdd x v reducesTo_S8x1x1_S_d0_1_2 h_S_) : (⟨S8x1x1, .f32⟩ : BufTy).Contents (Elt F) → (⟨S_, .f32⟩ : BufTy).Contents (Elt F) → (⟨S_, .f32⟩ : BufTy).Contents (Elt F)),
    StableHlo.nullary main_cst_2 (constant S_ .f32 0x35A00000#32),
    StableHlo.binary main_v9 main_cst_2 main_v10 (mulf : (⟨S_, .f32⟩ : BufTy).Contents (Elt F) → (⟨S_, .f32⟩ : BufTy).Contents (Elt F) → (⟨S_, .f32⟩ : BufTy).Contents (Elt F)),
    StableHlo.reshape main_v8 main_v11 (rfl : (.f32 : EltTy) = .f32) shapeCasts_S16384x128_S16x1024x128,
    StableHlo.reshape main_v4_0 main_v12 (rfl : (.i32 : EltTy) = .i32) shapeCasts_S16384x1_S16x1024 ]

theorem opsA_sub : (opsA : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub ..⟩
theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub ..⟩
theorem opsC_sub : (opsC : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.reshape_bufs_sub .., StableHlo.reshape_bufs_sub ..⟩
theorem opsA_fresh : (opsA : List (HloOp τ sig (Elt F))).Forall fun op => op.fresh = ∅ := ⟨rfl, rfl, rfl, rfl, rfl⟩
theorem opsB_fresh : (opsB : List (HloOp τ sig (Elt F))).Forall fun op => op.fresh = ∅ := ⟨rfl, rfl, rfl, rfl⟩
theorem opsC_fresh : (opsC : List (HloOp τ sig (Elt F))).Forall fun op => op.fresh = ∅ := ⟨rfl, rfl, rfl, rfl, rfl, rfl⟩

theorem in_uc {l : List (HloOp τ sig (Elt F))} (h : l.Forall fun op => op.bufs ⊆ StableHlo.tcRefs τ sig) : ∀ op ∈ l, op.bufs ⊆ ucRefs τ sig := fun op ho =>
  Pipeline.sub_ucRefs op (List.forall_iff_forall_mem.mp h op ho)

theorem main_parts (d : Dev nD) : main (F := F) d
    = (StableHlo.seq opsA >>= fun _ => SparseCore.liftProg (Q := 1) (Prog.op (.customCall (Pipeline.entry (0 : Fin 1)) ()) fun _ => Prog.ret (⟨⟩ : PUnit)) >>= fun _ =>
        StableHlo.seq opsB >>= fun _ => (K (F := F)).run d 0 >>= fun _ => StableHlo.seq opsC) := rfl

/-! ## The contents, step by step -/

variable (m : (ℓ : Loc nD τ sig) → Buf (Elt F) ℓ) (ρ : Dev nD → PrngReg)

/-- before the TensorCore call, after it, before the SparseCore call, after it, at the end -/
abbrev W1 (d : Dev nD) : Valuation τ sig (Elt F) := StableHlo.after opsA (fun b => m (d, b))
abbrev W2 (d : Dev nD) : Valuation τ sig (Elt F) := behindW (W1 m) d
abbrev W3 (d : Dev nD) : Valuation τ sig (Elt F) := StableHlo.after opsB (W2 m d)
abbrev tx (d : Dev nD) : Buf (Elt F) (xLoc d) := W3 m d (Proc.devRef .tc main_v6)
abbrev ti (d : Dev nD) : Buf (Elt F) (iLoc d) := W3 m d (Proc.devRef .tc main_v7)
abbrev to' (d : Dev nD) : Buf (Elt F) (oLoc d) := W3 m d (Proc.devRef .tc main_v8)
def W4 (d : Dev nD) : Valuation τ sig (Elt F) := Function.update (W3 m d) (Proc.devRef .tc main_v8) (out (tx m) (ti m) d)
abbrev W5 (d : Dev nD) : Valuation τ sig (Elt F) := StableHlo.after opsC (W4 m d)
abbrev Pm : (K (F := F)).Pay (nD := nD) (Val := Elt F) (Name := ℕ) (U := UU) := P (tx m) (ti m) (to' m)

theorem W4_rows (d : Dev nD) : W4 m d (Proc.devRef .tc main_v8) = out (tx m) (ti m) d := by
  unfold W4; rw [Function.update_self]
theorem W4_else (d : Dev nD) (b : DevRef τ sig) (h : b ≠ Proc.devRef .tc main_v8) : W4 m d b = W3 m d b := by
  unfold W4; rw [Function.update_of_ne h]

/-! ## The launch's ghost state -/

abbrev EP : Emb (URounds (GSem nD τ sig) Unit) (MT nD τ sig (HIx 1) (Elt F) ℕ UU ℕ) := (Emb.inl : Emb _ (URounds (GSem nD τ sig) Unit × Counters)).trans embR

abbrev pc := pin (PC (F := F)) adm
theorem pc_inj : Function.Injective (Pipeline.cellOf (nD := nD) (τ := τ) (pc (F := F))) := cellOf_inj

def u₀ : UU := (initOf (K (F := F)).hsCells (K (F := F)).hsToks, (initOf (Pipeline.cells (pc (F := F)) pc_inj) (Pipeline.launchToks (pc (F := F)) pc_inj), 1))

abbrev G (d : Dev nD) : sProp 𝕄 := iprop(Pipeline.cellsGhost (pc (F := F)) EP 0 d ∗ Pipeline.toksInit (pc (F := F)) EP 0 d)

omit [FloatOps F] in
theorem bigSep_none {I : Type} (s : Finset I) : (bigSep s fun _ => iprop(emp)) = (iprop(emp) : sProp 𝕄) := bigSep_emp_const s

omit [FloatOps F] in
theorem G_eq : (iprop((bigSep Finset.univ fun c : Dev nD => bigSep Finset.univ fun p => Pipeline.cellsGhost (pc (F := F)) EP p c)
      ∗ (bigSep Finset.univ fun c : Dev nD => bigSep Finset.univ fun p => Pipeline.toksInit (pc (F := F)) EP p c)) : sProp 𝕄)
    = bigSep Finset.univ fun d : Dev nD => G (F := F) d := by
  rw [show (bigSep Finset.univ fun d : Dev nD => G (F := F) d) = iprop((bigSep Finset.univ fun d : Dev nD => Pipeline.cellsGhost (pc (F := F)) EP 0 d)
      ∗ bigSep Finset.univ fun d : Dev nD => Pipeline.toksInit (pc (F := F)) EP 0 d) from bigSep_sep' _ _ _]
  congr 1 <;> exact bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (Pipeline.cells (pc (F := F)) pc_inj) (Pipeline.launchToks (pc (F := F)) pc_inj), 1) : URounds (GSem nD τ sig) Unit × Counters)) $$ Hu
  icases H with ⟨HH, HP⟩
  ihave H := (own_pair_emb embR (initOf (Pipeline.cells (pc (F := F)) pc_inj) (Pipeline.launchToks (pc (F := F)) pc_inj)) (1 : Counters)) $$ HP
  icases H with ⟨HP, -⟩
  imod (Pipeline.fund_ghost (pc (F := F)) EP pc_inj) $$ HP with ⟨Hg, Ht⟩
  imodintro
  isplitl [HH]; · iexact HH
  isplitl [Hg Ht]
  · iapply (Entails.of_eq G_eq)
    isplitl [Hg]; · iexact Hg
    iexact Ht
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_none]
  iempintro

/-! ## The SparseCore call's three buffers out of the rest -/

abbrev three : Finset (DevRef τ sig) := {Proc.devRef .tc main_v7, Proc.devRef .tc main_v6, Proc.devRef .tc main_v8}
theorem three_sub : three ⊆ ucRefs τ sig := by decide

omit [FloatOps F] in
theorem three_eq (d : Dev nD) (Y : Valuation τ sig (Elt F)) : (StableHlo.held (d.tc : Thread nD τ) three Y : sProp 𝕄)
    = iprop((iLoc d ↦{fullShare} Y (Proc.devRef .tc main_v7)) ∗ (xLoc d ↦{fullShare} Y (Proc.devRef .tc main_v6)) ∗ oLoc d ↦{fullShare} Y (Proc.devRef .tc main_v8)) := by
  unfold StableHlo.held
  rw [SparseCore.bigSep_insert' (by decide), SparseCore.bigSep_insert' (by decide), bigSep_singleton]

theorem other_eq (d : Dev nD) : (StableHlo.held (d.tc : Thread nD τ) (ucRefs τ sig \ three) (W3 m d) : sProp 𝕄)
    = StableHlo.held (d.tc : Thread nD τ) (ucRefs τ sig \ three) (W4 m d) :=
  StableHlo.held_congr _ fun b hb => (W4_else m d b (fun h => (Finset.mem_sdiff.mp hb).2 (by rw [h]; decide))).symm

/-! ## @main -/

/-- The core's state before the SparseCore call: what it owes, and the call's handshake state. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
omit [FloatOps F] in
theorem tcSt_zero (d : Dev nD) : ((K (F := F)).tcSt EH d 0 : sProp 𝕄) = iprop(owing d ∗ tcRest d) := rfl

abbrev FIN (d : Dev nD) : sProp 𝕄 := StableHlo.held (d.tc : Thread nD τ) (ucRefs τ sig) (W5 m d)

variable [∀ e, Nonempty (Elt F e)]

set_option backward.isDefEq.respectTransparency.types false in
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (StableHlo.held (d.tc : Thread nD τ) (ucRefs τ sig) (fun b => m (d, b)) : sProp 𝕄) from
    Pipeline.unscopedBufs_held d (fun b => m (d, b)), main_parts]
  iintro ⟨#Hctx, Hst, ⟨Hb, Hm, Hts, -⟩, HG⟩
  iapply (StableHlo.wp_seq 𝒱 none Set.univ d (ucRefs τ sig) _ opsA (in_uc opsA_sub) (List.forall_iff_forall_mem.mp opsA_fresh) _) $$ [Hb Hm]
  · isplitl [Hb]; · iexact Hb
    iexact Hm
  iintro ⟨Hb, Hm⟩
  rw [wp_bind]
  iapply ((K (F := F)).wp_liftProg (D (F := F)) 𝒱 (SparseCore.T d) Set.univ none _ _)
  ihave Hst := (Entails.of_eq (tcSt_zero d)) $$ Hst
  icases Hst with ⟨HO, Hst⟩
  icases HG with ⟨Hg, Ht⟩
  ihave Hlev := (SparseCore.Cfg.ctx_levAts κ) $$ Hctx
  iapply (Pipeline.RegionSeg.wp (PC (F := F)) adm (dats (W1 m)) none pc_inj EP defs₀ 𝒱₀ (K (F := F)).L (K (F := F)).lev (seg (W1 m)) d none (fun _ h => nomatch h) (fun _ => .ret ⟨⟩) _)
  rw [seg_pre, seg_post]
  isplitr [Hb Hm HO Hg Ht]
  swap
  · isplitl [Hb]; · iexact Hb
    isplitl [Hm HO]
    · isplitl [Hm]; · iexact Hm
      iexact HO
    isplitr; · iexact Hlev
    isplitl [Hg]; · iexact Hg
    iexact Ht
  iintro ⟨Hb, Hm, HO⟩
  rw [wp_ret]
  imodintro
  iapply (StableHlo.wp_seq 𝒱 none Set.univ d (ucRefs τ sig) _ opsB (in_uc opsB_sub) (List.forall_iff_forall_mem.mp opsB_fresh) _) $$ [Hb Hm]
  · isplitl [Hb]; · iexact Hb
    iexact Hm
  iintro ⟨Hb, Hm⟩
  rw [wp_bind]
  iapply ((K (F := F)).wp_run (D (F := F)) 𝒱 (EH := EH) (P := Pm m) κ d 0)
  isplitr; · iexact Hctx
  isplitl [HO Hst]
  · iapply (Entails.of_eq (tcSt_zero d).symm)
    isplitl [HO]; · iexact HO
    iexact Hst
  ihave Hm := (Entails.of_eq (StableHlo.held_sub_split _ three_sub (W3 m d))) $$ Hm
  icases Hm with ⟨H3, Hr⟩
  isplitl [H3]
  · rw [st0_eq]
    iapply (Entails.of_eq (three_eq d (W3 m d)))
    iexact H3
  iintro ⟨Hst, Hdn⟩
  ihave H3 := (Entails.of_eq (dn0_eq (tx m) (ti m) (to' m) d)) $$ Hdn
  ihave Hm : iprop(StableHlo.held (d.tc : Thread nD τ) (ucRefs τ sig) (W4 m d)) $$ [H3 Hr]
  · rw [StableHlo.held_sub_split _ three_sub (W4 m d), ← other_eq m d, three_eq, W4_rows, W4_else m d _ (by decide), W4_else m d _ (by decide)]
    isplitl [H3]; · iexact H3
    iexact Hr
  rw [← bind_pure (StableHlo.seq opsC)]
  iapply (StableHlo.wp_seq 𝒱 none Set.univ d (ucRefs τ sig) _ opsC (in_uc opsC_sub) (List.forall_iff_forall_mem.mp opsC_fresh) _) $$ [Hb Hm]
  · isplitl [Hb]; · iexact Hb
    iexact Hm
  iintro ⟨Hb, Hm⟩
  rw [wp_pure]
  imodintro
  isplitl [Hst]; · iexact Hst
  isplitl [Hm]; · iexact Hm
  isplitl [Hb]; · iexact Hb
  iexact Hts

def fq (d : Dev nD) (s' : Phys nD τ sig (Elt F)) : Prop := ∀ b ∈ ucRefs τ sig, s'.mem.mem (d, b) = W5 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact h

def QC : PUnit × MemSt nD τ sig (Elt F) → Prop := fun r =>
  (∀ (d : Dev nD), ∀ b ∈ ucRefs τ sig, r.2.mem (d, b) = W5 m d b) ∧ r.2.sem = fun _ => 0

theorem run_main (hpre : InTable (F := F) (ti m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tx m) (ti m) (to' m) facts hpre)
    (fun q _ => match q with | 0 => SparseCore.Cfg.VecSplit.of_plain (vecSplit (tx m) (ti m) (to' m)))
    m ρ main (fun d => G d) (FIN m) (u₀ (F := F)) (sep_elim_left.trans (hu₀ m)) (hmain m ρ) (fq m) (hfin m) (QC m) (fun _ h hz => ⟨h, hz⟩)

end Cert.Proof.WholeRun

end
-- ==== Proof.Whole.Value.lean ====
/-
  What the TensorCore call leaves in its two result arrays: row `p` of the indices and entry `t` of the partial sums are
  what the body computes from block `p / 2048`, respectively `t`, of the input rows and from the whole of the two codebooks.
-/
module

public import proofs.«01_k».proof.Proof.Whole.Region
public import Idealize.ShloMosaic.Lib.Pipeline.ValueKit
public import Idealize.ShloMosaic.Lib.ValueIdx

@[expose] public section

set_option maxRecDepth 16384

noncomputable section

namespace Cert.Proof.WholeRun

open Cert.KernelIdeal Cert.KernelIdeal.Gen
open Idealize.ShloMosaic hiding ix1 ix2 ix3
open Idealize.ShloMosaic.TcCoe Idealize.ShloMosaic.ValueIdx Idealize.SL.Sem
open Idealize.ShloMosaic.Pipeline (Dat Cfg Window)

variable {F : FTy → Type} [FloatOps F]

/-- Block `t` of the input rows. -/
def rowsBlk (z : FVec F S16384x64 .f32) (t : Fin 8) : FVec F S2048x64 .f32 := fun i =>
  z (ix2 (⟨t.val * 2048 + (i 0).val, by have h : (i 0).val < 2048 := (i 0).isLt; have := t.isLt; omega⟩ : Fin 16384) (⟨(i 1).val, (i 1).isLt⟩ : Fin 64))

/-- The index of every input row. -/
def idxArr (z : FVec F S16384x64 .f32) (a : FVec F S1024x64 .f32) (b : FVec F S64x1024 .f32) : IVec S16384x1 32 := fun i =>
  k0_pay3 (rowsBlk z ⟨(i 0).val / 2048, by have h : (i 0).val < 16384 := (i 0).isLt; omega⟩) a b
    (ix2 (⟨(i 0).val % 2048, Nat.mod_lt _ (by decide)⟩ : Fin 2048) (0 : Fin 1))

/-- Every block's partial sum. -/
def sumArr (z : FVec F S16384x64 .f32) (a : FVec F S1024x64 .f32) (b : FVec F S64x1024 .f32) : FVec F S8x1x1 .f32 := fun i =>
  k0_pay4 (rowsBlk z ⟨(i 0).val, (i 0).isLt⟩) a b (ix3 (0 : Fin 1) (0 : Fin 1) (0 : Fin 1))

variable (W : Dev nD → Valuation τ sig (Elt F)) (c : Dev nD)

theorem index0 (t : Fin cfg0.N) : win0_0.index t 0 * win0_0.size 0 = t.val * 2048 ∧ win0_0.index t 1 * win0_0.size 1 = 0 := by
  revert t; decide +kernel
theorem index1 (t : Fin cfg0.N) : win0_1.index t 0 = 0 ∧ win0_1.index t 1 = 0 := by
  revert t; decide +kernel
theorem index2 (t : Fin cfg0.N) : win0_2.index t 0 = 0 ∧ win0_2.index t 1 = 0 := by
  revert t; decide +kernel
theorem index3 (t : Fin cfg0.N) : win0_3.index t 0 * win0_3.size 0 = t.val * 2048 ∧ win0_3.index t 1 * win0_3.size 1 = 0 := by
  revert t; decide +kernel
theorem index4 (t : Fin cfg0.N) : win0_4.index t 0 * win0_4.size 0 = t.val ∧ win0_4.index t 1 * win0_4.size 1 = 0 ∧ win0_4.index t 2 * win0_4.size 2 = 0 := by
  revert t; decide +kernel

theorem blk0_eq (t : Fin cfg0.N) : blk W c 0 t = rowsBlk (at' W c main_v0) ⟨t.val, t.isLt⟩ := by
  funext y
  show at' W c main_v0 ((win0_0.rect t).emb y) = at' W c main_v0 _
  congr 1
  funext a
  apply Fin.ext
  match a with
  | ⟨0, _⟩ => exact (Window.rect_emb_val win0_0 t y 0).trans (by rw [(index0 t).1])
  | ⟨1, _⟩ => exact (Window.rect_emb_val win0_0 t y 1).trans (by rw [(index0 t).2]; exact Nat.zero_add _)

theorem blk1_eq (t : Fin cfg0.N) : blk W c 1 t = at' W c main_v2 := by
  funext y
  show at' W c main_v2 ((win0_1.rect t).emb y) = at' W c main_v2 y
  congr 1
  funext a
  apply Fin.ext
  match a with
  | ⟨0, _⟩ => exact Window.rect_emb_val_of_index_zero win0_1 t 0 (index1 t).1 y
  | ⟨1, _⟩ => exact Window.rect_emb_val_of_index_zero win0_1 t 1 (index1 t).2 y

theorem blk2_eq (t : Fin cfg0.N) : blk W c 2 t = at' W c main_v3 := by
  funext y
  show at' W c main_v3 ((win0_2.rect t).emb y) = at' W c main_v3 y
  congr 1
  funext a
  apply Fin.ext
  match a with
  | ⟨0, _⟩ => exact Window.rect_emb_val_of_index_zero win0_2 t 0 (index2 t).1 y
  | ⟨1, _⟩ => exact Window.rect_emb_val_of_index_zero win0_2 t 1 (index2 t).2 y

theorem z2 : (![0, 0] : Fin 2 → Nat) = fun _ => 0 := funext fun a => by fin_cases a <;> rfl
theorem z3 : (![0, 0, 0] : Fin 3 → Nat) = fun _ => 0 := funext fun a => by fin_cases a <;> rfl

theorem idxBlk_eq (x0 : Vec F S2048x64 .f32) (x1 : Vec F S1024x64 .f32) (x2 : Vec F S64x1024 .f32) : idxBlk x0 x1 x2 = k0_pay3 x0 x1 x2 := by
  unfold idxBlk
  rw [View.canon_unit_zero z2, View.ld_unit_zero z2, View.ld_unit_zero z2, View.ld_unit_zero z2]
theorem sumBlk_eq (x0 : Vec F S2048x64 .f32) (x1 : Vec F S1024x64 .f32) (x2 : Vec F S64x1024 .f32) : sumBlk x0 x1 x2 = k0_pay4 x0 x1 x2 := by
  unfold sumBlk
  rw [View.canon_unit_zero z3, View.ld_unit_zero z2, View.ld_unit_zero z2, View.ld_unit_zero z2]

attribute [local irreducible] idxBlk sumBlk

theorem arr_idx : (dat W c).arrAt 3 cfg0.N = idxArr (at' W c main_v0) (at' W c main_v2) (at' W c main_v3) := by
  refine (dat W c).arrAt_eq_of_covers 3 _ (by decide +kernel) fun t _ y => ?_
  refine Eq.trans (b := idxBlk (blk W c 0 t) (blk W c 1 t) (blk W c 2 t) y) (by rw [dat_after3]; rfl) ?_
  rw [idxBlk_eq, blk0_eq, blk1_eq, blk2_eq]
  have h0 : ((win0_3.rect t).emb y 0).val = t.val * 2048 + (y 0).val := (Window.rect_emb_val win0_3 t y 0).trans (by rw [(index3 t).1])
  have hy : (y 0).val < 2048 := (y 0).isLt
  show _ = idxArr _ _ _ ((win0_3.rect t).emb y)
  unfold idxArr
  have e1 : (⟨t.val, t.isLt⟩ : Fin 8) = ⟨((win0_3.rect t).emb y 0).val / 2048, by have h : ((win0_3.rect t).emb y 0).val < 16384 := ((win0_3.rect t).emb y 0).isLt; omega⟩ :=
    Fin.ext (by show t.val = _ / 2048; rw [h0]; omega)
  have e2 : y = ix2 (⟨((win0_3.rect t).emb y 0).val % 2048, Nat.mod_lt _ (by decide)⟩ : Fin 2048) (0 : Fin 1) := by
    funext a
    apply Fin.ext
    match a with
    | ⟨0, _⟩ => show (y 0).val = ((win0_3.rect t).emb y 0).val % 2048; rw [h0]; omega
    | ⟨1, _⟩ => show (y 1).val = 0; have : (y 1).val < 1 := (y 1).isLt; omega
  exact congr (congrArg (fun b => k0_pay3 (rowsBlk (at' W c main_v0) b) (at' W c main_v2) (at' W c main_v3)) e1) e2

theorem arr_sum : (dat W c).arrAt 4 cfg0.N = sumArr (at' W c main_v0) (at' W c main_v2) (at' W c main_v3) := by
  refine (dat W c).arrAt_eq_of_covers 4 _ (by decide +kernel) fun t _ y => ?_
  refine Eq.trans (b := sumBlk (blk W c 0 t) (blk W c 1 t) (blk W c 2 t) y) (by rw [dat_after4]; rfl) ?_
  rw [sumBlk_eq, blk0_eq, blk1_eq, blk2_eq]
  have hy : (y 0).val < 1 := (y 0).isLt
  have h0 : ((win0_4.rect t).emb y 0).val = t.val := (Window.rect_emb_val win0_4 t y 0).trans (by rw [(index4 t).1]; omega)
  show _ = sumArr _ _ _ ((win0_4.rect t).emb y)
  unfold sumArr
  have e1 : (⟨t.val, t.isLt⟩ : Fin 8) = ⟨((win0_4.rect t).emb y 0).val, ((win0_4.rect t).emb y 0).isLt⟩ := Fin.ext h0.symm
  have e2 : y = ix3 (0 : Fin 1) (0 : Fin 1) (0 : Fin 1) := by
    funext a
    apply Fin.ext
    match a with
    | ⟨0, _⟩ => show (y 0).val = 0; omega
    | ⟨1, _⟩ => show (y 1).val = 0; have : (y 1).val < 1 := (y 1).isLt; omega
    | ⟨2, _⟩ => show (y 2).val = 0; have : (y 2).val < 1 := (y 2).isLt; omega
  exact congr (congrArg (fun b => k0_pay4 (rowsBlk (at' W c main_v0) b) (at' W c main_v2) (at' W c main_v3)) e1) e2

end Cert.Proof.WholeRun

end
-- ==== Proof.Whole.Read.lean ====
/-
  `KernelIdeal`'s run, read back: the three results as terms of the two arguments.
-/
module

public import proofs.«01_k».proof.Proof.Whole.Run
public import proofs.«01_k».proof.Proof.Whole.Value

@[expose] public section

set_option maxRecDepth 16384

noncomputable section

namespace Cert.Proof.WholeRun

open Cert.KernelIdeal Cert.KernelIdeal.Gen
open Idealize.ShloMosaic hiding ix1 ix2 ix3
open Idealize.ShloMosaic.TcCoe Idealize.ShloMosaic.StableHlo Idealize.SL.Sem
open Idealize.ShloMosaic.Pipeline (ucRefs)

variable {F : FTy → Type} [FloatOps F]

/-! ## The results as terms -/

/-- The input's rows, one below the other. -/
def zRows (z : FVec F S16x1024x64 .f32) : FVec F S16384x64 .f32 := shapeCast S16384x64 z shapeCasts_S16x1024x64_S16384x64
/-- The codebook times minus two, -/
def cbm2 (e : FVec F S1024x64 .f32) : FVec F S1024x64 .f32 := mulf e (broadcastInDim S1024x64 ![] bcast_S_S1024x64 (constant S_ .f32 0xC0000000#32))
/-- transposed, -/
def cbT (e : FVec F S1024x64 .f32) : FVec F S64x1024 .f32 := transpose S64x1024 [1, 0] e transposes_S1024x64_S64x1024_1_0
/-- and with 64 lanes of zeros beside it. -/
def cbPad (e : FVec F S1024x64 .f32) : FVec F S1024x128 .f32 :=
  concatenate S1024x128 1 [⟨S1024x64, e⟩, ⟨S1024x64, broadcastInDim S1024x64 ![] bcast_S_S1024x64 (constant S_ .f32 0x00000000#32)⟩]
    concatenates_S1024x64_S1024x64_S1024x128_d1

def kIdx (z : FVec F S16x1024x64 .f32) (e : FVec F S1024x64 .f32) : IVec S16384x1 32 := idxArr (zRows z) (cbm2 e) (cbT e)
def kSum (z : FVec F S16x1024x64 .f32) (e : FVec F S1024x64 .f32) : FVec F S8x1x1 .f32 := sumArr (zRows z) (cbm2 e) (cbT e)
def kList (z : FVec F S16x1024x64 .f32) (e : FVec F S1024x64 .f32) : IVec S16384 32 := shapeCast S16384 (kIdx z e) shapeCasts_S16384x1_S16384

def kRows (z : FVec F S16x1024x64 .f32) (e : FVec F S1024x64 .f32) : FVec F S16x1024x128 .f32 :=
  shapeCast S16x1024x128 (rowsOf (cbPad e) (kList z e)) shapeCasts_S16384x128_S16x1024x128
def kPlaces (z : FVec F S16x1024x64 .f32) (e : FVec F S1024x64 .f32) : IVec S16x1024 32 := shapeCast S16x1024 (kIdx z e) shapeCasts_S16384x1_S16x1024
def kLoss (z : FVec F S16x1024x64 .f32) (e : FVec F S1024x64 .f32) : FVec F S_ .f32 :=
  mulf (Host.reduceAdd (kSum z e) (constant S_ .f32 0x00000000#32) reducesTo_S8x1x1_S_d0_1_2 h_S_) (constant S_ .f32 0x35A00000#32)

/-! ## The operations, read back -/

section
variable (V : Valuation τ sig (Elt F))

set_option maxHeartbeats 2000000

theorem A_v0 : after opsA V (Proc.devRef .tc main_v0) = zRows (V (Proc.devRef .tc main_arg0)) := by
  simp only [opsA]; after_results <;> rfl
theorem A_v2 : after opsA V (Proc.devRef .tc main_v2) = cbm2 (V (Proc.devRef .tc main_arg1)) := by
  simp only [opsA]; after_results <;> rfl
theorem A_v3 : after opsA V (Proc.devRef .tc main_v3) = cbT (V (Proc.devRef .tc main_arg1)) := by
  simp only [opsA]; after_results <;> rfl
theorem A_arg0 : after opsA V (Proc.devRef .tc main_arg0) = V (Proc.devRef .tc main_arg0) := by
  simp only [opsA]; after_results <;> rfl
theorem A_arg1 : after opsA V (Proc.devRef .tc main_arg1) = V (Proc.devRef .tc main_arg1) := by
  simp only [opsA]; after_results <;> rfl

theorem B_v6 : after opsB V (Proc.devRef .tc main_v6) = cbPad (V (Proc.devRef .tc main_arg1)) := by
  simp only [opsB]; after_results <;> rfl
theorem B_v7 : after opsB V (Proc.devRef .tc main_v7)
    = (shapeCast S16384 (V (Proc.devRef .tc main_v4_0) : IVec S16384x1 32) shapeCasts_S16384x1_S16384 : IVec S16384 32) := by
  simp only [opsB]; after_results <;> rfl
theorem B_v4_0 : after opsB V (Proc.devRef .tc main_v4_0) = V (Proc.devRef .tc main_v4_0) := by
  simp only [opsB]; after_results <;> rfl
theorem B_v4_1 : after opsB V (Proc.devRef .tc main_v4_1) = V (Proc.devRef .tc main_v4_1) := by
  simp only [opsB]; after_results <;> rfl
theorem B_arg0 : after opsB V (Proc.devRef .tc main_arg0) = V (Proc.devRef .tc main_arg0) := by
  simp only [opsB]; after_results <;> rfl
theorem B_arg1 : after opsB V (Proc.devRef .tc main_arg1) = V (Proc.devRef .tc main_arg1) := by
  simp only [opsB]; after_results <;> rfl

theorem C_v11 : after opsC V (Proc.devRef .tc main_v11)
    = (shapeCast S16x1024x128 (V (Proc.devRef .tc main_v8) : FVec F S16384x128 .f32) shapeCasts_S16384x128_S16x1024x128 : FVec F S16x1024x128 .f32) := by
  simp only [opsC]; after_results <;> rfl
theorem C_v12 : after opsC V (Proc.devRef .tc main_v12)
    = (shapeCast S16x1024 (V (Proc.devRef .tc main_v4_0) : IVec S16384x1 32) shapeCasts_S16384x1_S16x1024 : IVec S16x1024 32) := by
  simp only [opsC]; after_results <;> rfl
theorem C_v10 : after opsC V (Proc.devRef .tc main_v10)
    = (mulf (Host.reduceAdd (V (Proc.devRef .tc main_v4_1) : FVec F S8x1x1 .f32) (constant S_ .f32 0x00000000#32) reducesTo_S8x1x1_S_d0_1_2 h_S_)
        (constant S_ .f32 0x35A00000#32) : FVec F S_ .f32) := by
  simp only [opsC]; after_results <;> rfl
theorem C_arg0 : after opsC V (Proc.devRef .tc main_arg0) = V (Proc.devRef .tc main_arg0) := by
  simp only [opsC]; after_results <;> rfl
theorem C_arg1 : after opsC V (Proc.devRef .tc main_arg1) = V (Proc.devRef .tc main_arg1) := by
  simp only [opsC]; after_results <;> rfl

end

/-! ## The run's contents -/

variable (m : (ℓ : Loc nD τ sig) → Buf (Elt F) ℓ) (ρ : Dev nD → PrngReg) (d : Dev nD)

/-- The two arguments. -/
abbrev argZ : FVec F S16x1024x64 .f32 := m ((d.tc : Thread nD τ).loc main_arg0)
abbrev argE : FVec F S1024x64 .f32 := m ((d.tc : Thread nD τ).loc main_arg1)

theorem W2_idx : W2 m d (Proc.devRef .tc main_v4_0) = kIdx (argZ m d) (argE m d) := by
  refine (behindW_idx (W1 m) d).trans ((arr_idx (W1 m) d).trans ?_)
  exact congr (congr (congrArg idxArr (A_v0 _)) (A_v2 _)) (A_v3 _)
theorem W2_sum : W2 m d (Proc.devRef .tc main_v4_1) = kSum (argZ m d) (argE m d) := by
  refine (behindW_sum (W1 m) d).trans ((arr_sum (W1 m) d).trans ?_)
  exact congr (congr (congrArg sumArr (A_v0 _)) (A_v2 _)) (A_v3 _)
theorem W2_arg0 : W2 m d (Proc.devRef .tc main_arg0) = argZ m d :=
  (behindW_else (W1 m) d (Proc.devRef .tc main_arg0) (by decide) (by decide)).trans (A_arg0 _)
theorem W2_arg1 : W2 m d (Proc.devRef .tc main_arg1) = argE m d :=
  (behindW_else (W1 m) d (Proc.devRef .tc main_arg1) (by decide) (by decide)).trans (A_arg1 _)

theorem tx_eq : tx m d = cbPad (argE m d) := (B_v6 _).trans (by rw [W2_arg1])
theorem ti_eq : ti m d = kList (argZ m d) (argE m d) := (B_v7 _).trans (by rw [W2_idx]; rfl)

theorem W5_v11 : W5 m d (Proc.devRef .tc main_v11) = kRows (argZ m d) (argE m d) := by
  refine (C_v11 _).trans ?_
  rw [W4_rows]
  unfold out kRows
  rw [tx_eq, ti_eq]
theorem W5_v12 : W5 m d (Proc.devRef .tc main_v12) = kPlaces (argZ m d) (argE m d) := by
  refine (C_v12 _).trans ?_
  rw [W4_else m d (Proc.devRef .tc main_v4_0) (by decide)]
  show shapeCast S16x1024 (after opsB (W2 m d) (Proc.devRef .tc main_v4_0) : IVec S16384x1 32) _ = _
  rw [B_v4_0, W2_idx]; rfl
theorem W5_v10 : W5 m d (Proc.devRef .tc main_v10) = kLoss (argZ m d) (argE m d) := by
  refine (C_v10 _).trans ?_
  rw [W4_else m d (Proc.devRef .tc main_v4_1) (by decide)]
  show mulf (Host.reduceAdd (after opsB (W2 m d) (Proc.devRef .tc main_v4_1) : FVec F S8x1x1 .f32) _ _ _) _ = _
  rw [B_v4_1, W2_sum]; rfl
theorem W5_arg0 : W5 m d (Proc.devRef .tc main_arg0) = argZ m d := by
  refine (C_arg0 _).trans ((W4_else m d (Proc.devRef .tc main_arg0) (by decide)).trans ((B_arg0 _).trans (W2_arg0 m d)))
theorem W5_arg1 : W5 m d (Proc.devRef .tc main_arg1) = argE m d := by
  refine (C_arg1 _).trans ((W4_else m d (Proc.devRef .tc main_arg1) (by decide)).trans ((B_arg1 _).trans (W2_arg1 m d)))

/-- Given that the indices name rows of the codebook, every fair execution ends with the three results at these terms of the
    arguments, the arguments unchanged and every semaphore at zero. -/
theorem run [∀ e, Nonempty (Elt F e)] (hi : ∀ d j, (kList (argZ m d) (argE m d) j).toNat < 1024) :
    θ_run (Cert.KernelIdeal.defs (F := F)) (Cert.KernelIdeal.threads (F := F)) ⟨m, fun _ => 0, ρ⟩ fun r =>
      (∀ c : Dev nD, r.2.mem ((c.tc : Thread nD τ).loc main_v11) = kRows (argZ m c) (argE m c)
        ∧ r.2.mem ((c.tc : Thread nD τ).loc main_v12) = kPlaces (argZ m c) (argE m c)
        ∧ r.2.mem ((c.tc : Thread nD τ).loc main_v10) = kLoss (argZ m c) (argE m c)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run _ _ _).mono (fun _ h => ⟨fun c =>
      ⟨(h.1 c (Proc.devRef .tc main_v11) (by decide)).trans (W5_v11 m c), (h.1 c (Proc.devRef .tc main_v12) (by decide)).trans (W5_v12 m c),
        (h.1 c (Proc.devRef .tc main_v10) (by decide)).trans (W5_v10 m c), (h.1 c (Proc.devRef .tc main_arg0) (by decide)).trans (W5_arg0 m c),
        (h.1 c (Proc.devRef .tc main_arg1) (by decide)).trans (W5_arg1 m c)⟩, h.2⟩)
    (run_main m ρ fun d j => by rw [ti_eq]; exact hi d j)

end Cert.Proof.WholeRun

end
-- ==== Proof.Whole.Maths.lean ====
/-
  The mathematics both programs compute, over the reals: every row's squared distances from the codebook's rows, the first
  place of the least, and the few facts about the extended reals that lead from the printed operations to it.
-/
module

public import Idealize.ShloMosaic.PureOps.Ideal.Laws
public import Idealize.ShloMosaic.Lib.IdealHost
public import Idealize.ShloMosaic.Lib.ValueIdx
public import Mathlib.Data.EReal.Operations
public import Mathlib.Algebra.BigOperators.Ring.Finset
public import Mathlib.Tactic.Ring
public import Mathlib.Tactic.FieldSimp
public import Mathlib.Tactic.NormNum

@[expose] public section

noncomputable section

namespace Cert.Proof.Maths

open Idealize.ShloMosaic
open scoped BigOperators

/-! ## Sums of reals inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A reshape keeps the sum of an array's entries. -/
theorem sum_shapeCast {M : Type} [AddCommMonoid M] {s t : Shape} (x : s.Idx → M) (h : s.ShapeCasts t) : ∑ j, shapeCast t x h j = ∑ i, x i := by
  unfold shapeCast
  exact Equiv.sum_comp (Shape.reshapeEquiv h) x

/-- The squared distance of two rows. -/
def sq {n : ℕ} (u v : Fin n → ℝ) : ℝ := ∑ k, (u k - v k) * (u k - v k)

/-- … as the kernel adds it up, the codebook's row scaled by minus two beforehand. -/
theorem sq_kernel {n : ℕ} (u v : Fin n → ℝ) :
    ((∑ k, (u k : EReal) * (u k : EReal)) + ∑ k, (u k : EReal) * ((v k : EReal) * ((-2 : ℝ) : EReal))) + ∑ k, (v k : EReal) * (v k : EReal)
      = (sq u v : EReal) := by
  simp only [← EReal.coe_mul, ← coe_sum, ← EReal.coe_add]
  congr 1
  unfold sq
  rw [← Finset.sum_add_distrib, ← Finset.sum_add_distrib]
  exact Finset.sum_congr rfl fun k _ => by ring

/-- … and as the reference does, the input's row doubled. -/
theorem sq_reference {n : ℕ} (u v : Fin n → ℝ) :
    ((0 + ∑ k, (u k : EReal) * (u k : EReal)) - ∑ k, (((2 : ℝ) : EReal) * (u k : EReal)) * (v k : EReal)) + (0 + ∑ k, (v k : EReal) * (v k : EReal))
      = (sq u v : EReal) := by
  simp only [zero_add, ← EReal.coe_mul, ← coe_sum, ← EReal.coe_add, ← EReal.coe_sub]
  congr 1
  unfold sq
  rw [← Finset.sum_sub_distrib, ← Finset.sum_add_distrib]
  exact Finset.sum_congr rfl fun k _ => by ring

/-! ## The first place of the least -/

theorem exists_first {n : ℕ} [NeZero n] (f : Fin n → ℝ) : ∃ j₀, (∀ j, f j₀ ≤ f j) ∧ ∀ j, f j = f j₀ → j₀ ≤ j := by
  obtain ⟨a, -, ha⟩ := Finset.exists_min_image (Finset.univ : Finset (Fin n)) f ⟨0, Finset.mem_univ _⟩
  have hne : (Finset.univ.filter fun j => f j = f a).Nonempty := ⟨a, by simp⟩
  obtain ⟨b, hb, hmin⟩ := Finset.exists_min_image (Finset.univ.filter fun j => f j = f a) id hne
  have hb' : f b = f a := (Finset.mem_filter.1 hb).2
  exact ⟨b, fun j => hb' ▸ ha j (Finset.mem_univ _), fun j hj => hmin j (Finset.mem_filter.2 ⟨Finset.mem_univ _, hj.trans hb'⟩)⟩

def first {n : ℕ} [NeZero n] (f : Fin n → ℝ) : Fin n := Classical.choose (exists_first f)
theorem first_le {n : ℕ} [NeZero n] (f : Fin n → ℝ) (j : Fin n) : f (first f) ≤ f j := (Classical.choose_spec (exists_first f)).1 j
theorem first_first {n : ℕ} [NeZero n] (f : Fin n → ℝ) (j : Fin n) (h : f j = f (first f)) : first f ≤ j := (Classical.choose_spec (exists_first f)).2 j h

theorem fold_min_first {n : ℕ} [NeZero n] (f : Fin n → ℝ) :
    (Finset.univ : Finset (Fin n)).fold min (⊤ : EReal) (fun j => (f j : EReal)) = (f (first f) : EReal) := by
  refine le_antisymm ?_ ?_
  · exact Finset.fold_min_le _ |>.2 (.inr ⟨first f, Finset.mem_univ _, le_rfl⟩)
  · exact Finset.le_fold_min _ |>.2 ⟨le_top, fun j _ => EReal.coe_le_coe_iff.2 (first_le f j)⟩

/-- The least of the places that reach the least, `1024` standing for a place that does not. -/
theorem fold_lane_first (f : Fin 1024 → ℝ) :
    (Finset.univ : Finset (Fin 1024)).fold min (⊤ : EReal)
        (fun j => if (f j : EReal) = (f (first f) : EReal) then ((j.val : ℝ) : EReal) else ((1024 : ℝ) : EReal))
      = (((first f).val : ℝ) : EReal) := by
  refine le_antisymm ?_ ?_
  · exact Finset.fold_min_le _ |>.2 (.inr ⟨first f, Finset.mem_univ _, by rw [if_pos rfl]⟩)
  · refine Finset.le_fold_min _ |>.2 ⟨le_top, fun j _ => ?_⟩
    split
    · next h => exact EReal.coe_le_coe_iff.2 (Nat.cast_le.2 (first_first f j (EReal.coe_injective h)))
    · exact EReal.coe_le_coe_iff.2 (by have := (first f).isLt; exact_mod_cast this.le)

/-- The codebook row nearest to a row, the first of them; and its squared distance. -/
def near (x : Fin 64 → ℝ) (v : Fin 1024 → Fin 64 → ℝ) : Fin 1024 := first fun j => sq x (v j)
def least (x : Fin 64 → ℝ) (v : Fin 1024 → Fin 64 → ℝ) : ℝ := sq x (v (near x v))

/-- 16384 rows added up in 8 blocks of 2048. -/
theorem sum_blocks (f : Fin 16384 → ℝ) :
    ∑ t : Fin 8, ∑ r : Fin 2048, f ⟨t.val * 2048 + r.val, by have := t.isLt; have := r.isLt; omega⟩ = ∑ p, f p := by
  rw [← Equiv.sum_comp (finProdFinEquiv (m := 8) (n := 2048)) f, Fintype.sum_prod_type]
  refine Finset.sum_congr rfl fun t _ => Finset.sum_congr rfl fun r _ => congrArg f (Fin.ext ?_)
  show t.val * 2048 + r.val = r.val + 2048 * t.val
  omega

/-! ## The search that walks a row's places one after the other -/

/-- `a` is before `b`: a smaller value, or the same at a place not later. -/
def Before (a b : EReal × BitVec 32) : Prop := a.1 < b.1 ∨ (a.1 = b.1 ∧ a.2.toInt ≤ b.2.toInt)

theorem Before.refl (a : EReal × BitVec 32) : Before a a := .inr ⟨rfl, le_rfl⟩
theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

theorem foldl_before (f : EReal × BitVec 32 → EReal × BitVec 32 → EReal × BitVec 32)
    (hf : ∀ a b, (f a b = a ∧ Before a b) ∨ (f a b = b ∧ Before b a)) (l : List (EReal × BitVec 32)) (b₀ : EReal × BitVec 32) :
    (l.foldl f b₀ = b₀ ∨ l.foldl f b₀ ∈ l) ∧ Before (l.foldl f b₀) b₀ ∧ ∀ a ∈ l, Before (l.foldl f b₀) a := by
  induction l generalizing b₀ with
  | nil => exact ⟨.inl rfl, Before.refl _, fun a h => absurd h List.not_mem_nil⟩
  | cons x l ih =>
    obtain ⟨hm, hb, ha⟩ := ih (f b₀ x)
    rw [List.foldl_cons]
    rcases hf b₀ x with ⟨h, hx⟩ | ⟨h, hx⟩ <;> rw [h] at hm hb ha ⊢
    · refine ⟨hm.imp_right (List.mem_cons_of_mem _), hb, fun a h' => ?_⟩
      rcases List.mem_cons.1 h' with rfl | h'
      · exact hb.trans hx
      · exact ha a h'
    · refine ⟨.inr ?_, hb.trans hx, fun a h' => ?_⟩
      · rcases hm with hm | hm
        · rw [hm]; exact List.mem_cons_self
        · exact List.mem_cons_of_mem _ hm
      · rcases List.mem_cons.1 h' with rfl | h'
        · exact hb
        · exact ha a h'

/-! ## The words the places are -/

theorem toInt_lane (j : ℕ) (h : j < 1024) : (BitVec.ofNat 32 j).toInt = j := by
  rw [BitVec.toInt_eq_toNat_of_lt] <;> simp [BitVec.toNat_ofNat] <;> omega

/-- Over a row's real values and their places, from an infinite value on, the search ends at the first place of the least. -/
theorem foldl_first (f : EReal × BitVec 32 → EReal × BitVec 32 → EReal × BitVec 32)
    (hf : ∀ a b, (f a b = a ∧ Before a b) ∨ (f a b = b ∧ Before b a)) (g : Fin 1024 → ℝ) (l : List (EReal × BitVec 32))
    (hl : ∀ a, a ∈ l ↔ ∃ j : Fin 1024, a = ((g j : EReal), BitVec.ofNat 32 j.val)) (w : BitVec 32) :
    (l.foldl f (⊤, w)).2 = BitVec.ofNat 32 (first g).val := by
  obtain ⟨hm, -, ha⟩ := foldl_before f hf l (⊤, w)
  have h0 := ha _ ((hl _).2 ⟨first g, rfl⟩)
  generalize l.foldl f (⊤, w) = r at hm h0
  rcases hm with rfl | hm
  · rcases h0 with h0 | ⟨h0, -⟩
    · exact absurd h0 not_top_lt
    · exact absurd h0.symm (EReal.coe_ne_top _)
  · obtain ⟨j, rfl⟩ := (hl _).1 hm
    have hle := first_le g j
    rcases h0 with h0 | ⟨h0, hi⟩
    · exact absurd (EReal.coe_lt_coe_iff.1 h0) (not_lt.2 hle)
    · have := first_first g j (EReal.coe_injective h0)
      dsimp only at hi
      rw [toInt_lane _ j.isLt, toInt_lane _ (first g).isLt] at hi
      have hj : j = first g := Fin.ext (by have : (first g).val ≤ j.val := this; omega)
      rw [hj]

theorem fptosi_lane (j : ℕ) (h : j < 1024) : Ideal.fptosi 32 ((j : ℝ) : EReal) = BitVec.ofNat 32 j := by
  unfold Ideal.fptosi
  rw [Ideal.toIntClamped_coe]
  rw [if_pos (Nat.cast_nonneg j), Int.floor_natCast]
  rw [show max (-((2 ^ (32 - 1) : ℕ) : ℤ)) (min (((2 ^ (32 - 1) : ℕ) : ℤ) - 1) (j : ℤ)) = (j : ℤ) by norm_num; omega]
  simp

/-! ## The constants -/

theorem c_neg2 : Ideal.ofBits .f32 0xC0000000#32 = ((-2 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_quarter : Ideal.ofBits .f32 0x3E800000#32 = ((1 / 4 : ℝ) : EReal) := by
  simp [Ideal.ofBits, Ideal.ieee, -EReal.coe_mul]; norm_num
theorem c_count : Ideal.ofBits .f32 0x49800000#32 = ((1048576 : ℝ) : EReal) := by
  simp [Ideal.ofBits, Ideal.ieee, -EReal.coe_mul]; norm_num
theorem c_loss : Ideal.ofBits .f32 0x35A00000#32 = ((5 / 4 / 1048576 : ℝ) : EReal) := by
  simp [Ideal.ofBits, Ideal.ieee, -EReal.coe_mul]; norm_num
theorem c_inf : Ideal.ofBits .f32 0x7F800000#32 = (⊤ : EReal) := by
  simp [Ideal.ofBits, Ideal.ieee]

/-- The two means, one weighted by a quarter, are the kernel's one product. -/
theorem loss_eq (s : ℝ) : ((1 / 4 : ℝ) : EReal) * Ideal.div (s : EReal) ((1048576 : ℝ) : EReal) + Ideal.div (s : EReal) ((1048576 : ℝ) : EReal)
    = (s : EReal) * ((5 / 4 / 1048576 : ℝ) : EReal) := by
  have hne : ((1048576 : ℝ) : EReal) ≠ 0 := by
    intro h; have := EReal.coe_eq_zero.1 h; norm_num at this
  unfold Ideal.div
  rw [if_neg hne, ← EReal.coe_inv, ← EReal.coe_mul, ← EReal.coe_mul, ← EReal.coe_mul, ← EReal.coe_add]
  congr 1; ring

theorem back (z q : ℝ) : (z : EReal) + ((q : EReal) - (z : EReal)) = (q : EReal) := by
  rw [← EReal.coe_sub, ← EReal.coe_add]; congr 1; ring

end Cert.Proof.Maths

end
-- ==== Proof.Whole.KernelMath.lean ====
/-
  What the TensorCore call's body computes over the extended reals of a block of real rows and of a real codebook: every
  row's first place of its least squared distance, and the block's sum of the least distances.
-/
module

public import proofs.«01_k».proof.Proof.Whole.Read
public import proofs.«01_k».proof.Proof.Whole.Maths
public import Idealize.ShloMosaic.Lib.MatmulPlain

@[expose] public section

set_option maxRecDepth 16384

noncomputable section

namespace Cert.Proof.WholeRun

open Cert.KernelIdeal Cert.KernelIdeal.Gen Cert.Proof.Maths
open Idealize.ShloMosaic hiding ix1 ix2 ix3
open Idealize.ShloMosaic.ValueIdx
open scoped BigOperators

/-! ## The codebook's two forms, read at an index -/

section
variable (e : FVec Ideal S1024x64 .f32)

theorem cbm2_apply (j : Fin 1024) (k : Fin 64) : cbm2 e (ix2 j k) = e (ix2 j k) * ((-2 : ℝ) : EReal) := by
  show e (ix2 j k) * Ideal.ofBits .f32 0xC0000000#32 = _
  rw [c_neg2]

theorem cbT_apply (k : Fin 64) (j : Fin 1024) : cbT e (ix2 k j) = e (ix2 j k) := by
  unfold cbT
  refine transpose_apply _ _ _ _ (ix2 j k) fun a => ?_
  match a with
  | ⟨0, _⟩ => rfl
  | ⟨1, _⟩ => rfl
end

/-! ## A block -/

section
variable (X : FVec Ideal S2048x64 .f32) (e : FVec Ideal S1024x64 .f32)
variable (u : Fin 2048 → Fin 64 → ℝ) (v : Fin 1024 → Fin 64 → ℝ)
variable (hX : ∀ r k, X (ix2 r k) = (u r k : EReal)) (he : ∀ j k, e (ix2 j k) = (v j k : EReal))

theorem lift_row (r : Fin 2048) (k : Fin 64) : reduces_S2048x64_S2048.lift (ix1 r) k = ix2 r k := by
  funext a
  match a with
  | ⟨0, _⟩ => rfl
  | ⟨1, _⟩ => rfl

theorem lift_col (j : Fin 1024) (k : Fin 64) : reduces_S64x1024_S1024.lift (ix1 j) k = ix2 k j := by
  funext a
  match a with
  | ⟨0, _⟩ => rfl
  | ⟨1, _⟩ => rfl

theorem lift_lane (r : Fin 2048) (j : Fin 1024) : reduces_S2048x1024_S2048.lift (ix1 r) j = ix2 r j := by
  funext a
  match a with
  | ⟨0, _⟩ => rfl
  | ⟨1, _⟩ => rfl

/-- A column of one lane has its row's entry of the vector it was made of. -/
theorem column_apply {α : Type} (x : S2048.Idx → α) (r : Fin 2048) (q : Fin 1) : shapeCast S2048x1 x shapeCasts_S2048_S2048x1 (ix2 r q) = x (ix1 r) := by
  refine shapeCast_apply _ _ _ (ix1 r) ?_
  rw [Shape.rowMajor_val_one, Shape.rowMajor_val_two]
  show r.val = r.val * 1 + q.val
  omega

theorem row_apply {α : Type} (x : S1024.Idx → α) (q : Fin 1) (j : Fin 1024) : shapeCast S1x1024 x shapeCasts_S1024_S1x1024 (ix2 q j) = x (ix1 j) := by
  refine shapeCast_apply _ _ _ (ix1 j) ?_
  rw [Shape.rowMajor_val_one, Shape.rowMajor_val_two]
  show j.val = q.val * 1024 + j.val
  omega

theorem spread_column {α : Type} (x : S2048x1.Idx → α) (r : Fin 2048) (j : Fin 1024) :
    broadcastTo S2048x1024 x broadcasts_S2048x1_S2048x1024 (ix2 r j) = x (ix2 r (0 : Fin 1)) := by
  refine broadcastTo_apply _ _ _ _ fun a => ?_
  match a with
  | ⟨0, _⟩ => rfl
  | ⟨1, _⟩ => rfl

theorem spread_row {α : Type} (x : S1x1024.Idx → α) (r : Fin 2048) (j : Fin 1024) :
    broadcastTo S2048x1024 x broadcasts_S1x1024_S2048x1024 (ix2 r j) = x (ix2 (0 : Fin 1) j) := by
  refine broadcastTo_apply _ _ _ _ fun a => ?_
  match a with
  | ⟨0, _⟩ => rfl
  | ⟨1, _⟩ => rfl

theorem dot_apply (A : FVec Ideal S2048x64 .f32) (B : FVec Ideal S1024x64 .f32) (r : Fin 2048) (j : Fin 1024) :
    matmul dot_S2048x64_S1024x64_S2048x1024_1_1_0_0_n_n none A B (constant S2048x1024 .f32 0x00000000#32) (ix2 r j)
      = ∑ k : Fin 64, A (ix2 r k) * B (ix2 j k) := by
  have h := Ideal.matmul_transposedRhs_apply (M := 2048) (K := 64) (N := 1024) none A B (constant S2048x1024 .f32 0x00000000#32) r j
  refine (show _ = _ from h).trans ?_
  rw [constant_apply]
  show Ideal.ofBits .f32 0x00000000#32 + _ = _
  rw [Ideal.ofBits_zero_f32, zero_add]

theorem sum_row (A : FVec Ideal S2048x64 .f32) (r : Fin 2048) :
    multiReduction .add [1] S2048 A 0x00000000#32 reduces_S2048x64_S2048 (.inl rfl) rfl (ix1 r) = ∑ k : Fin 64, A (ix2 r k) :=
  (Ideal.multiReduction_add_single A _ reduces_S2048x64_S2048 (.inl rfl) rfl (ix1 r)).trans
    (Finset.sum_congr rfl fun k _ => congrArg A (lift_row r k))

theorem sum_col (A : FVec Ideal S64x1024 .f32) (j : Fin 1024) :
    multiReduction .add [0] S1024 A 0x00000000#32 reduces_S64x1024_S1024 (.inl rfl) rfl (ix1 j) = ∑ k : Fin 64, A (ix2 k j) :=
  (Ideal.multiReduction_add_single A _ reduces_S64x1024_S1024 (.inl rfl) rfl (ix1 j)).trans
    (Finset.sum_congr rfl fun k _ => congrArg A (lift_col j k))

theorem min_row (A : FVec Ideal S2048x1024 .f32) (r : Fin 2048) :
    multiReduction .minimumf [1] S2048 A 0x7F800000#32 reduces_S2048x1024_S2048 (.inl rfl) rfl (ix1 r)
      = (Finset.univ : Finset (Fin 1024)).fold min (⊤ : EReal) fun j => A (ix2 r j) := by
  refine (multiReduction_minimumf_eq_fold A _ reduces_S2048x1024_S2048 (.inl rfl) rfl (ix1 r)).trans ?_
  refine (Shape.Reduces.fold_filter_drop_single reduces_S2048x1024_S2048 _ _ A (ix1 r)).trans ?_
  show Finset.univ.fold min (Ideal.ofBits .f32 0x7F800000#32) _ = _
  rw [c_inf]
  exact Finset.fold_congr fun j _ => congrArg A (lift_lane r j)

theorem sum_all (A : FVec Ideal S1x2048x1 .f32) (i : S1.Idx) :
    multiReduction .add [1, 2] S1 A 0x00000000#32 reduces_S1x2048x1_S1 (.inl rfl) rfl i = ∑ k, A k :=
  Ideal.multiReduction_add_total A _ reduces_S1x2048x1_S1 (fun b => by match b with | ⟨0, _⟩ => rfl) (.inl rfl) rfl i

/-- The one entry of a vector, carried through the shapes of one entry. -/
theorem one_apply (A : FVec Ideal S1 .f32) (x : EReal) (h : ∀ i, A i = x) (p : S1x1x1.Idx) :
    shapeCast S1x1x1 (broadcast S1x1 (extractAt ![0, 0, 0] (shapeCast S1x1x1 A shapeCasts_S1_S1x1x1) inpos_S1x1x1_p0_0_0)) shapeCasts_S1x1_S1x1x1 p = x := by
  unfold shapeCast broadcast extractAt
  exact h _

theorem pay4_sum (B : FVec Ideal S1024x64 .f32) (C : FVec Ideal S64x1024 .f32) (p : S1x1x1.Idx) :
    k0_pay4 (F := Ideal) X B C p = ∑ i, k0_pay2 (F := Ideal) X B C i := by
  unfold k0_pay4
  generalize k0_pay2 (F := Ideal) X B C = A
  exact one_apply _ _ (fun i => (sum_all _ i).trans (sum_shapeCast A shapeCasts_S2048x1_S1x2048x1)) p

include hX he

theorem pay1_apply (r : Fin 2048) (j : Fin 1024) : k0_pay1 X (cbm2 e) (cbT e) (ix2 r j) = (sq (u r) (v j) : EReal) := by
  rw [← sq_kernel]
  unfold k0_pay1
  simp only [shapeCast_self]
  rw [addf_apply, addf_apply, spread_column, spread_row, column_apply, row_apply]
  refine congrArg₂ (fun a b : EReal => a + b) (congrArg₂ (fun a b : EReal => a + b) ((sum_row _ r).trans ?_) ((dot_apply _ _ r j).trans ?_)) ((sum_col _ j).trans ?_)
  · refine Finset.sum_congr rfl fun k _ => ?_
    rw [ValueIdx.mulf_apply, hX]
  · refine Finset.sum_congr rfl fun k _ => ?_
    rw [hX, cbm2_apply, he]
  · refine Finset.sum_congr rfl fun k _ => ?_
    rw [ValueIdx.mulf_apply, cbT_apply, he]

/-- Row `r`'s least distance. -/
theorem pay2_apply (r : Fin 2048) (q : Fin 1) :
    k0_pay2 X (cbm2 e) (cbT e) (ix2 r q) = ((least (u r) v) : EReal) := by
  unfold k0_pay2
  refine (column_apply _ r q).trans ((min_row _ r).trans ?_)
  refine Eq.trans ?_ (fold_min_first (fun j => sq (u r) (v j)))
  exact Finset.fold_congr fun j _ => pay1_apply X e u v hX he r j

/-- The first place of row `r`'s least distance. -/
theorem pay3_apply (r : Fin 2048) (q : Fin 1) :
    k0_pay3 X (cbm2 e) (cbT e) (ix2 r q) = BitVec.ofNat 32 (near (u r) v).val := by
  rw [← fptosi_lane _ (near (u r) v).isLt]
  unfold k0_pay3
  refine congrArg (Ideal.fptosi 32) ?_
  refine (column_apply _ r q).trans ((min_row _ r).trans ?_)
  refine Eq.trans ?_ (fold_lane_first (fun j => sq (u r) (v j)))
  refine Finset.fold_congr fun j _ => ?_
  show Scalar.select (Ideal.cmp .oeq (k0_pay1 X (cbm2 e) (cbT e) (ix2 r j)) (broadcastTo S2048x1024 (k0_pay2 X (cbm2 e) (cbT e)) broadcasts_S2048x1_S2048x1024 (ix2 r j)))
    (((iota .tc S2048x1024 32 [1] iota_S2048x1024_d1_w32 (ix2 r j)).toInt : ℝ) : EReal) (Ideal.ofBits .f32 0x44800000#32) = _
  rw [spread_column, pay1_apply X e u v hX he, pay2_apply X e u v hX he, c_1024, iota_single_apply]
  show Scalar.select (Ideal.cmp .oeq _ _) (((BitVec.ofNat 32 j.val).toInt : ℝ) : EReal) _ = _
  rw [toInt_lane _ j.isLt]
  show Scalar.select (Ideal.cmp .oeq _ ((sq (u r) (v (first fun j => sq (u r) (v j))) : ℝ) : EReal)) _ _ = _
  by_cases h : ((sq (u r) (v j) : ℝ) : EReal) = ((sq (u r) (v (first fun j => sq (u r) (v j))) : ℝ) : EReal)
  · simp [Scalar.select, Ideal.cmp, h]
  · simp [Scalar.select, Ideal.cmp, h]

theorem pay4_apply : k0_pay4 X (cbm2 e) (cbT e) (ix3 (0 : Fin 1) (0 : Fin 1) (0 : Fin 1))
    = ((∑ r, least (u r) v : ℝ) : EReal) := by
  rw [pay4_sum]
  rw [ValueIdx.sum_idx2, coe_sum]
  refine Finset.sum_congr rfl fun r _ => ?_
  rw [Fin.sum_univ_one]
  exact pay2_apply X e u v hX he r 0
end

/-! ## The whole arrays -/

section
variable (z : FVec Ideal S16x1024x64 .f32) (e : FVec Ideal S1024x64 .f32)
variable (u : Fin 16384 → Fin 64 → ℝ) (v : Fin 1024 → Fin 64 → ℝ)
variable (hz : ∀ p k, zRows z (ix2 p k) = (u p k : EReal)) (he : ∀ j k, e (ix2 j k) = (v j k : EReal))

/-- A block's rows, as reals. -/
def uBlk (t : Fin 8) (r : Fin 2048) : Fin 64 → ℝ := u ⟨t.val * 2048 + r.val, by have := t.isLt; have := r.isLt; omega⟩

include hz in
theorem rowsBlk_real (t : Fin 8) (r : Fin 2048) (k : Fin 64) : rowsBlk (zRows z) t (ix2 r k) = (uBlk u t r k : EReal) := hz _ k

include hz he

theorem kIdx_apply (p : Fin 16384) (q : Fin 1) : kIdx z e (ix2 p q) = BitVec.ofNat 32 (near (u p) v).val := by
  have h := pay3_apply (rowsBlk (zRows z) ⟨p.val / 2048, by have := p.isLt; omega⟩) e (uBlk u ⟨p.val / 2048, by have := p.isLt; omega⟩) v
    (rowsBlk_real z u hz _) he ⟨p.val % 2048, Nat.mod_lt _ (by decide)⟩ 0
  refine (show kIdx z e (ix2 p q) = _ from h).trans ?_
  have hp : uBlk u ⟨p.val / 2048, by have := p.isLt; omega⟩ ⟨p.val % 2048, Nat.mod_lt _ (by decide)⟩ = u p := by
    unfold uBlk
    exact congrArg u (Fin.ext (Nat.div_add_mod' p.val 2048))
  rw [hp]

theorem kList_apply (p : Fin 16384) : kList z e (ix1 p) = BitVec.ofNat 32 (near (u p) v).val := by
  unfold kList
  refine (shapeCast_apply _ _ _ (ix2 p (0 : Fin 1)) ?_).trans (kIdx_apply z e u v hz he p 0)
  rw [Shape.rowMajor_val_two, Shape.rowMajor_val_one]
  show p.val * 1 + 0 = p.val
  omega

theorem kList_lt (i : S16384.Idx) : (kList z e i).toNat < 1024 := by
  obtain ⟨p, rfl⟩ : ∃ p : Fin 16384, i = ix1 p := ⟨i 0, ValueIdx.eq_ix1 i⟩
  rw [kList_apply z e u v hz he]
  have := (near (u p) v).isLt
  rw [BitVec.toNat_ofNat]
  omega

theorem kSum_apply (t : Fin 8) (a b : Fin 1) : kSum z e (ix3 t a b) = ((∑ r, least (uBlk u t r) v : ℝ) : EReal) :=
  pay4_apply (rowsBlk (zRows z) t) e (uBlk u t) v (rowsBlk_real z u hz t) he

omit hz he in
theorem loss_sum (A : FVec Ideal S8x1x1 .f32) (i : S_.Idx) :
    mulf (Host.reduceAdd A (constant S_ .f32 0x00000000#32) reducesTo_S8x1x1_S_d0_1_2 h_S_) (constant S_ .f32 0x35A00000#32) i
      = (∑ t : Fin 8, A (ix3 t (0 : Fin 1) (0 : Fin 1))) * ((5 / 4 / 1048576 : ℝ) : EReal) := by
  rw [ValueIdx.mulf_apply, ValueIdx.hostReduceAdd_apply, ValueIdx.constant_apply, ValueIdx.constant_apply]
  refine congrArg₂ (fun a b : EReal => a * b) ?_ c_loss
  refine (Ideal.hostReduceAdd_total _ (fun b => b.elim0) A _ i).trans ?_
  refine (congrArg (fun a : EReal => a + ∑ k, A k) Ideal.ofBits_zero_f32).trans ?_
  rw [zero_add, Idealize.ShloMosaic.sum_idx3]
  refine Finset.sum_congr rfl fun t _ => ?_
  rw [Fin.sum_univ_one, Fin.sum_univ_one]
  rfl

/-- The loss the kernel's host side computes. -/
theorem kLoss_apply (i : S_.Idx) : kLoss z e i = ((∑ p, least (u p) v : ℝ) : EReal) * ((5 / 4 / 1048576 : ℝ) : EReal) := by
  unfold kLoss
  rw [loss_sum]
  refine congrArg (fun a : EReal => a * ((5 / 4 / 1048576 : ℝ) : EReal)) ?_
  rw [← sum_blocks, coe_sum]
  exact Finset.sum_congr rfl fun t _ => kSum_apply z e u v hz he t 0 0
end

end Cert.Proof.WholeRun

end
-- ==== Proof.Whole.RefRun.lean ====
/-
  `ReferenceIdeal`'s run: the reference is host operations only, so every one of its buffers ends at what the operations,
  in order, leave there. The three results are read back as terms of the two arguments.
-/
module

public import proofs.«01_k».proof.Proof.Gen.ReferenceIdeal
public import Idealize.ShloMosaic.Lib.StableHlo.Run

@[expose] public section

noncomputable section

namespace Cert.Proof.WholeRef

open Cert.ReferenceIdeal Cert.ReferenceIdeal.Gen
open Idealize.ShloMosaic Idealize.ShloMosaic.TcCoe Idealize.SL.Sem Idealize.ShloMosaic.StableHlo

variable {F : FTy → Type} [FloatOps F]

/-! ## The operations -/

/-- The distances of every input row from every codebook row. -/
def opsDist : List (HloOp τ sig (Elt F)) :=
  [ reshape main_arg0 main_v0 (rfl : (.f32 : EltTy) = .f32) shapeCasts_S16x1024x64_S16384x64,
    binary main_v0 main_v0 main_v1 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    nullary main_cst_0 (constant S_ .f32 0x40000000#32),
    unary main_cst_0 main_v4 (broadcastInDim S16384x64 ![] bcast_S_S16384x64 : (⟨S_, .f32⟩ : BufTy).Contents (Elt F) → (⟨S16384x64, .f32⟩ : BufTy).Contents (Elt F)),
    binary main_v4 main_v0 main_v5 (mulf : (⟨S16384x64, .f32⟩ : BufTy).Contents (Elt F) → (⟨S16384x64, .f32⟩ : BufTy).Contents (Elt F) → (⟨S16384x64, .f32⟩ : BufTy).Contents (Elt F)),
    unary main_arg1 main_v6 ((transpose S64x1024 [1, 0] · transposes_S1024x64_S64x1024_1_0) : (⟨S1024x64, .f32⟩ : BufTy).Contents (Elt F) → (⟨S64x1024, .f32⟩ : BufTy).Contents (Elt F)),
    binary main_v5 main_v6 main_v7 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    unary main_v3 main_v8 (broadcastInDim S16384x1024 ![0, 1] bcast_S16384x1_S16384x1024_0_1 : (⟨S16384x1, .f32⟩ : BufTy).Contents (Elt F) → (⟨S16384x1024, .f32⟩ : BufTy).Contents (Elt F)),
    binary main_v8 main_v7 main_v9 (subf : (⟨S16384x1024, .f32⟩ : BufTy).Contents (Elt F) → (⟨S16384x1024, .f32⟩ : BufTy).Contents (Elt F) → (⟨S16384x1024, .f32⟩ : BufTy).Contents (Elt F)),
    binary main_arg1 main_arg1 main_v10 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v10 main_cst_1 main_v11 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v11 main_v12 (broadcastInDim S1x1024 ![1] bcast_S1024_S1x1024_1 : (⟨S1024, .f32⟩ : BufTy).Contents (Elt F) → (⟨S1x1024, .f32⟩ : BufTy).Contents (Elt F)),
    unary main_v12 main_v13 (broadcastInDim S16384x1024 ![0, 1] bcast_S1x1024_S16384x1024_0_1 : (⟨S1x1024, .f32⟩ : BufTy).Contents (Elt F) → (⟨S16384x1024, .f32⟩ : BufTy).Contents (Elt F)),
    binary main_v9 main_v13 main_v14 (addf : (⟨S16384x1024, .f32⟩ : BufTy).Contents (Elt F) → (⟨S16384x1024, .f32⟩ : BufTy).Contents (Elt F) → (⟨S16384x1024, .f32⟩ : BufTy).Contents (Elt F)) ]

theorem opsDist_sub : (opsDist : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- The least distance of every row and the first place it is reached. -/
def opsArg : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v14) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v14) (TRef.of (T := ⟨S16384x1024, .i32⟩) main_call0_v0) (TRef.of (T := ⟨S_, .f32⟩) main_call0_cst) (TRef.of (T := ⟨S_, .i32⟩) main_call0_c) (TRef.of (T := ⟨S16384, .i32⟩) main_v15) (fun x y u v j => (Host.argReduce reducer_argmin_f32_i32 x y u v reducesTo_S16384x1024_S16384_d1 h_S_ j).2) ]

theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩

/-- The codebook rows at those places. -/
def opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v15) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v15) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v15) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S1024x64, .f32⟩) main_arg1) (TRef.of (T := ⟨S16384x1, .i32⟩) main_call1_v5) (TRef.of (T := ⟨S16384x64, .f32⟩) main_call1_v13) (fun x i => Host.gather gather_S1024x64_S16384x1_S16384x64_1_0_n_n_0_1_164 x i),
    TRef.unary (TRef.of (T := ⟨S16384, .i1⟩) main_call1_v12) (TRef.of (T := ⟨S16384x64, .i1⟩) main_call1_v14) (broadcastInDim S16384x64 ![0] bcast_S16384_S16384x64_0),
    TRef.nullary (TRef.of (T := ⟨S_, .f32⟩) main_call1_cst) (constant S_ .f32 0x7FC00000#32),
    TRef.unary (TRef.of (T := ⟨S_, .f32⟩) main_call1_cst) (TRef.of (T := ⟨S16384x64, .f32⟩) main_call1_v15) (broadcastInDim S16384x64 ![] bcast_S_S16384x64),
    TRef.ternary (TRef.of (T := ⟨S16384x64, .i1⟩) main_call1_v14) (TRef.of (T := ⟨S16384x64, .f32⟩) main_call1_v13) (TRef.of (T := ⟨S16384x64, .f32⟩) main_call1_v15) (TRef.of (T := ⟨S16384x64, .f32⟩) main_v16) select ]

theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The loss, the rows laid out in 128 lanes, and the places laid out as the input is. -/
def opsRest : List (HloOp τ sig (Elt F)) :=
  [ reshape main_v16 main_v17 (rfl : (.f32 : EltTy) = .f32) shapeCasts_S16384x64_S16x1024x64,
    binary main_v17 main_arg0 main_v18 (subf : (⟨S16x1024x64, .f32⟩ : BufTy).Contents (Elt F) → (⟨S16x1024x64, .f32⟩ : BufTy).Contents (Elt F) → (⟨S16x1024x64, .f32⟩ : BufTy).Contents (Elt F)),
    binary main_v18 main_v18 main_v19 (mulf : (⟨S16x1024x64, .f32⟩ : BufTy).Contents (Elt F) → (⟨S16x1024x64, .f32⟩ : BufTy).Contents (Elt F) → (⟨S16x1024x64, .f32⟩ : BufTy).Contents (Elt F)),
    nullary main_cst_2 (constant S_ .f32 0x00000000#32),
    binary main_v19 main_cst_2 main_v20 ((fun x v => Host.reduceAdd x v reducesTo_S16x1024x64_S_d0_1_2 h_S_) : (⟨S16x1024x64, .f32⟩ : BufTy).Contents (Elt F) → (⟨S_, .f32⟩ : BufTy).Contents (Elt F) → (⟨S_, .f32⟩ : BufTy).Contents (Elt F)),
    nullary main_cst_3 (constant S_ .f32 0x49800000#32),
    binary main_v20 main_cst_3 main_v21 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v21 main_v22 (mulf : (⟨S_, .f32⟩ : BufTy).Contents (Elt F) → (⟨S_, .f32⟩ : BufTy).Contents (Elt F) → (⟨S_, .f32⟩ : BufTy).Contents (Elt F)),
    binary main_v17 main_arg0 main_v23 (subf : (⟨S16x1024x64, .f32⟩ : BufTy).Contents (Elt F) → (⟨S16x1024x64, .f32⟩ : BufTy).Contents (Elt F) → (⟨S16x1024x64, .f32⟩ : BufTy).Contents (Elt F)),
    binary main_v23 main_v23 main_v24 (mulf : (⟨S16x1024x64, .f32⟩ : BufTy).Contents (Elt F) → (⟨S16x1024x64, .f32⟩ : BufTy).Contents (Elt F) → (⟨S16x1024x64, .f32⟩ : BufTy).Contents (Elt F)),
    nullary main_cst_5 (constant S_ .f32 0x00000000#32),
    binary main_v24 main_cst_5 main_v25 ((fun x v => Host.reduceAdd x v reducesTo_S16x1024x64_S_d0_1_2 h_S_) : (⟨S16x1024x64, .f32⟩ : BufTy).Contents (Elt F) → (⟨S_, .f32⟩ : BufTy).Contents (Elt F) → (⟨S_, .f32⟩ : BufTy).Contents (Elt F)),
    nullary main_cst_6 (constant S_ .f32 0x49800000#32),
    binary main_v25 main_cst_6 main_v26 (Host.divf : (⟨S_, .f32⟩ : BufTy).Contents (Elt F) → (⟨S_, .f32⟩ : BufTy).Contents (Elt F) → (⟨S_, .f32⟩ : BufTy).Contents (Elt F)),
    binary main_v22 main_v26 main_v27 (addf : (⟨S_, .f32⟩ : BufTy).Contents (Elt F) → (⟨S_, .f32⟩ : BufTy).Contents (Elt F) → (⟨S_, .f32⟩ : BufTy).Contents (Elt F)),
    binary main_v17 main_arg0 main_v28 (subf : (⟨S16x1024x64, .f32⟩ : BufTy).Contents (Elt F) → (⟨S16x1024x64, .f32⟩ : BufTy).Contents (Elt F) → (⟨S16x1024x64, .f32⟩ : BufTy).Contents (Elt F)),
    binary main_arg0 main_v28 main_v29 (addf : (⟨S16x1024x64, .f32⟩ : BufTy).Contents (Elt F) → (⟨S16x1024x64, .f32⟩ : BufTy).Contents (Elt F) → (⟨S16x1024x64, .f32⟩ : BufTy).Contents (Elt F)),
    nullary main_cst_7 (constant S_ .f32 0x00000000#32),
    unary main_cst_7 main_v30 (broadcastInDim S16x1024x64 ![] bcast_S_S16x1024x64 : (⟨S_, .f32⟩ : BufTy).Contents (Elt F) → (⟨S16x1024x64, .f32⟩ : BufTy).Contents (Elt F)),
    binary main_v29 main_v30 main_v31 ((fun a b => concatenate S16x1024x128 2 [⟨S16x1024x64, a⟩, ⟨S16x1024x64, b⟩] concatenates_S16x1024x64_S16x1024x64_S16x1024x128_d2) : (⟨S16x1024x64, .f32⟩ : BufTy).Contents (Elt F) → (⟨S16x1024x64, .f32⟩ : BufTy).Contents (Elt F) → (⟨S16x1024x128, .f32⟩ : BufTy).Contents (Elt F)),
    reshape main_v15 main_v32 (rfl : (.i32 : EltTy) = .i32) shapeCasts_S16384_S16x1024 ]

theorem opsRest_sub : (opsRest : List (HloOp τ sig (Elt F))).Forall fun op => op.bufs ⊆ tcRefs τ sig :=
  ⟨reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., binary_bufs_sub .., binary_bufs_sub .., nullary_bufs_sub .., unary_bufs_sub .., binary_bufs_sub .., reshape_bufs_sub ..⟩

def ops : List (HloOp τ sig (Elt F)) := opsDist ++ (opsArg ++ (opsTake ++ opsRest))

set_option maxRecDepth 100000 in
theorem main_eq (c : Dev nD) : main (F := F) c = seq ops := by
  simp only [ops, opsDist, opsArg, opsTake, opsRest, List.cons_append, List.nil_append]; rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨opsDist_sub, opsArg_sub, opsTake_sub, opsRest_sub⟩

theorem after_app (l l' : List (HloOp τ sig (Elt F))) (V : Valuation τ sig (Elt F)) : after (l ++ l') V = after l' (after l V) := by
  induction l generalizing V with
  | nil => rfl
  | cons op l ih => exact ih _

/-! ## What the operations leave -/

/-- The input's rows, one below the other. -/
def flat (z : FVec F S16x1024x64 .f32) : FVec F S16384x64 .f32 := shapeCast S16384x64 z shapeCasts_S16x1024x64_S16384x64

/-- Every row's distance from every codebook row. -/
def distOf (x : FVec F S16384x64 .f32) (e : FVec F S1024x64 .f32) : FVec F S16384x1024 .f32 :=
  addf (subf (broadcastInDim S16384x1024 ![0, 1] bcast_S16384x1_S16384x1024_0_1 (broadcastInDim S16384x1 ![0] bcast_S16384_S16384x1_0
        (Host.reduceAdd (mulf x x) (constant S_ .f32 0x00000000#32) reducesTo_S16384x64_S16384_d1 h_S_)))
      (Host.dotGeneral dot_S16384x64_S64x1024_S16384x1024_1_0_0_1_n_n none
        (mulf (broadcastInDim S16384x64 ![] bcast_S_S16384x64 (constant S_ .f32 0x40000000#32)) x)
        (transpose S64x1024 [1, 0] e transposes_S1024x64_S64x1024_1_0)))
    (broadcastInDim S16384x1024 ![0, 1] bcast_S1x1024_S16384x1024_0_1 (broadcastInDim S1x1024 ![1] bcast_S1024_S1x1024_1
      (Host.reduceAdd (mulf e e) (constant S_ .f32 0x00000000#32) reducesTo_S1024x64_S1024_d1 h_S_)))

/-- What a search of the printed comparison finds along the axes it reduces: the places. -/
def searched {s t w : Shape} {axes : List (Fin s.rank)} (x : FVec F s .f32) (y : IVec s 32) (ix : FVec F w .f32) (iy : IVec w 32)
    (h : s.ReducesTo axes t) (hw : 0 < w.numel) : IVec t 32 :=
  fun j => (Host.argReduce reducer_argmin_f32_i32 x y ix iy h hw j).2

/-- The first place of every row's least distance. -/
def idxOf (x : FVec F S16384x1024 .f32) : IVec S16384 32 :=
  searched x (iotaInDim S16384x1024 32 1) (constant S_ .f32 0x7F800000#32) (constantI S_ 32 0#32) reducesTo_S16384x1024_S16384_d1 h_S_

/-- The places with the negative ones counted from the end. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- The codebook's rows at the places. -/
def rowsAt (e : FVec F S1024x64 .f32) (i : IVec S16384 32) : FVec F S16384x64 .f32 :=
  select (broadcastInDim S16384x64 ![0] bcast_S16384_S16384x64_0
      (Host.reduce IntOp.andi (andi (cmpi .sge (wrapped i) (broadcastInDim S16384x1 ![] bcast_S_S16384x1 (constantI S_ 32 0#32)))
          (cmpi .sle (wrapped i) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 e (wrapped i))
    (broadcastInDim S16384x64 ![] bcast_S_S16384x64 (constant S_ .f32 0x7FC00000#32))

/-- The rows laid out as the input is. -/
def quant (q : FVec F S16384x64 .f32) : FVec F S16x1024x64 .f32 := shapeCast S16x1024x64 q shapeCasts_S16384x64_S16x1024x64

/-- The mean square of the difference. -/
def mse (z q : FVec F S16x1024x64 .f32) : FVec F S_ .f32 :=
  Host.divf (Host.reduceAdd (mulf (subf q z) (subf q z)) (constant S_ .f32 0x00000000#32) reducesTo_S16x1024x64_S_d0_1_2 h_S_)
    (constant S_ .f32 0x49800000#32)

def lossOf (z q : FVec F S16x1024x64 .f32) : FVec F S_ .f32 :=
  addf (mulf (constant S_ .f32 0x3E800000#32) (mse z q)) (mse z q)

def outOf (z q : FVec F S16x1024x64 .f32) : FVec F S16x1024x128 .f32 :=
  concatenate S16x1024x128 2 [⟨S16x1024x64, addf z (subf q z)⟩,
    ⟨S16x1024x64, broadcastInDim S16x1024x64 ![] bcast_S_S16x1024x64 (constant S_ .f32 0x00000000#32)⟩]
    concatenates_S16x1024x64_S16x1024x64_S16x1024x128_d2

def idxAs (i : IVec S16384 32) : IVec S16x1024 32 := shapeCast S16x1024 i shapeCasts_S16384_S16x1024

section
variable (V : Valuation τ sig (Elt F))

set_option maxHeartbeats 2000000

theorem dist_v14 : after opsDist V (Proc.devRef .tc main_v14) = distOf (flat (V (Proc.devRef .tc main_arg0))) (V (Proc.devRef .tc main_arg1)) := by
  simp only [opsDist]; after_results <;> rfl
theorem dist_arg0 : after opsDist V (Proc.devRef .tc main_arg0) = V (Proc.devRef .tc main_arg0) := by
  simp only [opsDist]; after_results <;> rfl
theorem dist_arg1 : after opsDist V (Proc.devRef .tc main_arg1) = V (Proc.devRef .tc main_arg1) := by
  simp only [opsDist]; after_results <;> rfl

theorem arg_v15 : after opsArg V (Proc.devRef .tc main_v15) = idxOf (V (Proc.devRef .tc main_v14)) := by
  simp only [opsArg, TRef.binary, TRef.nullary, TRef.quaternary, TRef.ternary, TRef.unary, TRef.toBuf, TRef.ofBuf, cast_eq]; after_results <;> rfl
theorem arg_arg0 : after opsArg V (Proc.devRef .tc main_arg0) = V (Proc.devRef .tc main_arg0) := by
  simp only [opsArg, TRef.binary, TRef.nullary, TRef.quaternary, TRef.ternary, TRef.unary, TRef.toBuf, TRef.ofBuf, cast_eq]; after_results <;> rfl
theorem arg_arg1 : after opsArg V (Proc.devRef .tc main_arg1) = V (Proc.devRef .tc main_arg1) := by
  simp only [opsArg, TRef.binary, TRef.nullary, TRef.quaternary, TRef.ternary, TRef.unary, TRef.toBuf, TRef.ofBuf, cast_eq]; after_results <;> rfl

theorem take_v16 : after opsTake V (Proc.devRef .tc main_v16) = rowsAt (V (Proc.devRef .tc main_arg1)) (V (Proc.devRef .tc main_v15)) := by
  simp only [opsTake, TRef.binary, TRef.nullary, TRef.ternary, TRef.unary, TRef.toBuf, TRef.ofBuf, cast_eq]; after_results <;> rfl
theorem take_arg0 : after opsTake V (Proc.devRef .tc main_arg0) = V (Proc.devRef .tc main_arg0) := by
  simp only [opsTake, TRef.binary, TRef.nullary, TRef.ternary, TRef.unary, TRef.toBuf, TRef.ofBuf, cast_eq]; after_results <;> rfl
theorem take_arg1 : after opsTake V (Proc.devRef .tc main_arg1) = V (Proc.devRef .tc main_arg1) := by
  simp only [opsTake, TRef.binary, TRef.nullary, TRef.ternary, TRef.unary, TRef.toBuf, TRef.ofBuf, cast_eq]; after_results <;> rfl
theorem take_v15 : after opsTake V (Proc.devRef .tc main_v15) = V (Proc.devRef .tc main_v15) := by
  simp only [opsTake, TRef.binary, TRef.nullary, TRef.ternary, TRef.unary, TRef.toBuf, TRef.ofBuf, cast_eq]; after_results <;> rfl

theorem rest_v31 : after opsRest V (Proc.devRef .tc main_v31) = outOf (V (Proc.devRef .tc main_arg0)) (quant (V (Proc.devRef .tc main_v16))) := by
  simp only [opsRest]; after_results <;> rfl
theorem rest_v27 : after opsRest V (Proc.devRef .tc main_v27) = lossOf (V (Proc.devRef .tc main_arg0)) (quant (V (Proc.devRef .tc main_v16))) := by
  simp only [opsRest]; after_results <;> rfl
theorem rest_v32 : after opsRest V (Proc.devRef .tc main_v32) = idxAs (V (Proc.devRef .tc main_v15)) := by
  simp only [opsRest]; after_results <;> rfl
theorem rest_arg0 : after opsRest V (Proc.devRef .tc main_arg0) = V (Proc.devRef .tc main_arg0) := by
  simp only [opsRest]; after_results <;> rfl
theorem rest_arg1 : after opsRest V (Proc.devRef .tc main_arg1) = V (Proc.devRef .tc main_arg1) := by
  simp only [opsRest]; after_results <;> rfl

end

/-! ## The run -/

/-- The places as the reference finds them from the arguments. -/
def place (z : FVec F S16x1024x64 .f32) (e : FVec F S1024x64 .f32) : IVec S16384 32 := idxOf (distOf (flat z) e)

theorem launch_arg0 (m : (ℓ : Loc nD τ sig) → Buf (Elt F) ℓ) (c : Dev nD) :
    launchContents m c (Proc.devRef .tc main_arg0) = m ((c.tc : Thread nD τ).loc main_arg0) := rfl
theorem launch_arg1 (m : (ℓ : Loc nD τ sig) → Buf (Elt F) ℓ) (c : Dev nD) :
    launchContents m c (Proc.devRef .tc main_arg1) = m ((c.tc : Thread nD τ).loc main_arg1) := rfl

/-- On every device, for any float values, from any memory with zero counters, the reference ends with its results at these
    terms of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = outOf (m ((c.tc : Thread nD τ).loc main_arg0))
          (quant (rowsAt (m ((c.tc : Thread nD τ).loc main_arg1)) (place (m ((c.tc : Thread nD τ).loc main_arg0)) (m ((c.tc : Thread nD τ).loc main_arg1)))))
      ∧ r.2.mem ((c.tc : Thread nD τ).loc main_v32) = idxAs (place (m ((c.tc : Thread nD τ).loc main_arg0)) (m ((c.tc : Thread nD τ).loc main_arg1)))
      ∧ r.2.mem ((c.tc : Thread nD τ).loc main_v27) = lossOf (m ((c.tc : Thread nD τ).loc main_arg0))
          (quant (rowsAt (m ((c.tc : Thread nD τ).loc main_arg1)) (place (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      refine ⟨(h c main_v31).trans ?_, (h c main_v32).trans ?_, (h c main_v27).trans ?_, (h c main_arg0).trans ?_, (h c main_arg1).trans ?_⟩
      · rw [ops, after_app, after_app, after_app, rest_v31, take_v16, take_arg0, arg_v15, arg_arg0, arg_arg1, dist_v14, dist_arg0, dist_arg1, launch_arg0, launch_arg1]; rfl
      · rw [ops, after_app, after_app, after_app, rest_v32, take_v15, arg_v15, dist_v14, launch_arg0, launch_arg1]; rfl
      · rw [ops, after_app, after_app, after_app, rest_v27, take_v16, take_arg0, arg_v15, arg_arg0, arg_arg1, dist_v14, dist_arg0, dist_arg1, launch_arg0, launch_arg1]; rfl
      · rw [ops, after_app, after_app, after_app, rest_arg0, take_arg0, arg_arg0, dist_arg0, launch_arg0]
      · rw [ops, after_app, after_app, after_app, rest_arg1, take_arg1, arg_arg1, dist_arg1, launch_arg1])
    (run_seq scopedRefs_eq scopedSems_eq defs main (fun _ => ops) main_eq (fun _ => ops_sub) m ρ)

end Cert.Proof.WholeRef

end
-- ==== Proof.Whole.RefMath.lean ====
/-
  What the reference's operations compute over the extended reals of a real input and of a real codebook: the same squared
  distances, the first place of every row's least, the codebook's rows at those places, and the two means.
-/
module

public import proofs.«01_k».proof.Proof.Whole.RefRun
public import proofs.«01_k».proof.Proof.Whole.Maths
public import proofs.«01_k».proof.Proof.Take
public import Idealize.ShloMosaic.Lib.MatmulPlain
public import Idealize.ShloMosaic.Lib.Pipeline.ValueKit

@[expose] public section

set_option maxRecDepth 16384

noncomputable section

namespace Cert.Proof.WholeRef

open Cert.ReferenceIdeal Cert.ReferenceIdeal.Gen Cert.Proof.Maths
open Idealize.ShloMosaic hiding ix1 ix2 ix3
open Idealize.ShloMosaic.ValueIdx
open scoped BigOperators

/-! ## The operations, read at an index -/

theorem reduces_rows : S16384x64.Reduces [1] S16384 := by decide
theorem reduces_book : S1024x64.Reduces [1] S1024 := by decide
theorem reduces_dist : S16384x1024.Reduces [1] S16384 := by decide

theorem lift_rows (p : Fin 16384) (k : Fin 64) : reduces_rows.lift (ix1 p) k = ix2 p k := by
  funext a
  match a with
  | ⟨0, _⟩ => rfl
  | ⟨1, _⟩ => rfl

theorem lift_book (j : Fin 1024) (k : Fin 64) : reduces_book.lift (ix1 j) k = ix2 j k := by
  funext a
  match a with
  | ⟨0, _⟩ => rfl
  | ⟨1, _⟩ => rfl

theorem sum_rows (A : FVec Ideal S16384x64 .f32) (p : Fin 16384) :
    Host.reduceAdd A (constant S_ .f32 0x00000000#32) reducesTo_S16384x64_S16384_d1 h_S_ (ix1 p) = 0 + ∑ k : Fin 64, A (ix2 p k) := by
  rw [ValueIdx.hostReduceAdd_apply]
  refine (Ideal.hostReduceAdd_single _ reduces_rows A _ (ix1 p)).trans ?_
  exact congrArg₂ (fun a b : EReal => a + b) Ideal.ofBits_zero_f32 (Finset.sum_congr rfl fun k _ => congrArg A (lift_rows p k))

theorem sum_book (A : FVec Ideal S1024x64 .f32) (j : Fin 1024) :
    Host.reduceAdd A (constant S_ .f32 0x00000000#32) reducesTo_S1024x64_S1024_d1 h_S_ (ix1 j) = 0 + ∑ k : Fin 64, A (ix2 j k) := by
  rw [ValueIdx.hostReduceAdd_apply]
  refine (Ideal.hostReduceAdd_single _ reduces_book A _ (ix1 j)).trans ?_
  exact congrArg₂ (fun a b : EReal => a + b) Ideal.ofBits_zero_f32 (Finset.sum_congr rfl fun k _ => congrArg A (lift_book j k))

theorem dot_apply (A : FVec Ideal S16384x64 .f32) (B : FVec Ideal S64x1024 .f32) (p : Fin 16384) (j : Fin 1024) :
    Host.dotGeneral dot_S16384x64_S64x1024_S16384x1024_1_0_0_1_n_n none A B (ix2 p j) = ∑ k : Fin 64, A (ix2 p k) * B (ix2 k j) := by
  simp only [Host.dotGeneral]
  rw [Ideal.dotGeneral_apply]
  have h := Ideal.matmul_plain_apply (M := 16384) (K := 64) (N := 1024) none A B (fun _ => (0 : EReal)) p j
  rw [Ideal.matmul_apply, zero_add, zero_add] at h
  exact h

theorem spread_col {α : Type} (x : S16384.Idx → α) (p : Fin 16384) (j : Fin 1024) :
    broadcastInDim S16384x1024 ![0, 1] bcast_S16384x1_S16384x1024_0_1 (broadcastInDim S16384x1 ![0] bcast_S16384_S16384x1_0 x) (ix2 p j) = x (ix1 p) := by
  refine (broadcastInDim_apply _ _ _ _ (ix2 p (0 : Fin 1)) fun a => ?_).trans (broadcastInDim_apply _ _ _ _ (ix1 p) fun a => ?_)
  · match a with
    | ⟨0, _⟩ => rfl
    | ⟨1, _⟩ => rfl
  · match a with
    | ⟨0, _⟩ => rfl

theorem spread_row {α : Type} (x : S1024.Idx → α) (p : Fin 16384) (j : Fin 1024) :
    broadcastInDim S16384x1024 ![0, 1] bcast_S1x1024_S16384x1024_0_1 (broadcastInDim S1x1024 ![1] bcast_S1024_S1x1024_1 x) (ix2 p j) = x (ix1 j) := by
  refine (broadcastInDim_apply _ _ _ _ (ix2 (0 : Fin 1) j) fun a => ?_).trans (broadcastInDim_apply _ _ _ _ (ix1 j) fun a => ?_)
  · match a with
    | ⟨0, _⟩ => rfl
    | ⟨1, _⟩ => rfl
  · match a with
    | ⟨0, _⟩ => rfl

/-- The printed comparison picks the pair that is before the other. -/
theorem reducer_before (a b : EReal × BitVec 32) :
    (reducer_argmin_f32_i32 (F := Ideal) a b = a ∧ Before a b) ∨ (reducer_argmin_f32_i32 (F := Ideal) a b = b ∧ Before b a) := by
  obtain ⟨x, i⟩ := a
  obtain ⟨y, j⟩ := b
  have h : reducer_argmin_f32_i32 (F := Ideal) (x, i) (y, j)
      = (Scalar.select (IntOp.ori (Ideal.cmp .olt x y) (Ideal.cmp .une x x)) x y,
         Scalar.select (IntOp.ori (IntOp.ori (Ideal.cmp .olt x y) (Ideal.cmp .une x x)) (IntOp.andi (Ideal.cmp .oeq x y) (IntOp.cmpi .slt i j))) i j) := rfl
  rw [h]
  rcases lt_trichotomy x y with hxy | hxy | hxy
  · left
    exact ⟨by simp [Ideal.cmp, hxy, hxy.ne, IntOp.ori, IntOp.andi, Scalar.select], .inl hxy⟩
  · subst hxy
    by_cases hij : i.toInt < j.toInt
    · left
      refine ⟨?_, .inr ⟨rfl, hij.le⟩⟩
      simp [Ideal.cmp, IntOp.ori, IntOp.andi, IntOp.cmpi, Scalar.select, BitVec.slt, hij]
    · right
      refine ⟨?_, .inr ⟨rfl, not_lt.1 hij⟩⟩
      simp [Ideal.cmp, IntOp.ori, IntOp.andi, IntOp.cmpi, Scalar.select, BitVec.slt, hij]
  · right
    refine ⟨?_, .inl hxy⟩
    simp [Ideal.cmp, hxy, hxy.ne', not_lt.2 hxy.le, IntOp.ori, IntOp.andi, Scalar.select]

/-- The pairs a search walks are those at the indices it reduces. -/
theorem mem_fiber {s t : Shape} {axes : List (Fin s.rank)} {α β : Type} (x : s.Idx → α) (y : s.Idx → β) (h : s.ReducesTo axes t) (j : t.Idx) (a : α × β) :
    a ∈ Host.argReduceFiber x y h j ↔ ∃ i, h.drop i = j ∧ a = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by simpa using hi, by simp⟩

/-- A search over the places of one axis, the values on it real. -/
theorem search_apply {s t w : Shape} {axes : List (Fin s.rank)} (h : s.ReducesTo axes t) (hw : 0 < w.numel) (x : FVec Ideal s .f32)
    (y : IVec s 32) (ix : FVec Ideal w .f32) (iy : IVec w 32) (j : t.Idx) (hix : ix (Shape.Idx.first hw) = (⊤ : EReal)) (g : Fin 1024 → ℝ)
    (at' : Fin 1024 → s.Idx) (hat : ∀ i, h.drop i = j ↔ ∃ k, at' k = i) (hx : ∀ k, x (at' k) = (g k : EReal))
    (hy : ∀ k, y (at' k) = BitVec.ofNat 32 k.val) :
    searched x y ix iy h hw j = BitVec.ofNat 32 (first g).val := by
  unfold searched
  rw [Ideal.argReduce_eq_reduce2, Host.reduce2_eq_foldl_fiber, hix]
  refine foldl_first _ reducer_before g _ (fun a => ?_) _
  rw [mem_fiber]
  constructor
  · rintro ⟨i, hi, rfl⟩
    obtain ⟨k, rfl⟩ := (hat i).1 hi
    exact ⟨k, by rw [hx, hy]⟩
  · rintro ⟨k, rfl⟩
    exact ⟨at' k, (hat _).2 ⟨k, rfl⟩, by rw [hx, hy]⟩

theorem drop_iff (p : Fin 16384) (i : S16384x1024.Idx) :
    reducesTo_S16384x1024_S16384_d1.drop i = ix1 p ↔ ∃ k : Fin 1024, (ix2 p k : S16384x1024.Idx) = i := by
  obtain ⟨a, b, rfl⟩ : ∃ (a : Fin 16384) (b : Fin 1024), i = ix2 a b := ⟨i 0, i 1, ValueIdx.eq_ix2 i⟩
  have hd : reducesTo_S16384x1024_S16384_d1.drop (ix2 a b) = ix1 a := by
    funext q
    match q with
    | ⟨0, _⟩ => rfl
  rw [hd]
  constructor
  · intro h
    have : a = p := congrFun h 0
    exact ⟨b, by rw [this]⟩
  · rintro ⟨k, h⟩
    have : p = a := congrFun h 0
    rw [this]

theorem idxOf_apply (x : FVec Ideal S16384x1024 .f32) (g : Fin 1024 → ℝ) (p : Fin 16384) (hx : ∀ j, x (ix2 p j) = (g j : EReal)) :
    idxOf x (ix1 p) = BitVec.ofNat 32 (first g).val := by
  unfold idxOf
  have hix : constant (F := Ideal) S_ .f32 0x7F800000#32 (Shape.Idx.first h_S_) = (⊤ : EReal) := by
    rw [ValueIdx.constant_apply]; exact c_inf
  have hy : ∀ k : Fin 1024, iotaInDim S16384x1024 32 1 (ix2 p k) = BitVec.ofNat 32 k.val := fun k => iotaInDim_apply 32 1 _
  exact search_apply reducesTo_S16384x1024_S16384_d1 h_S_ x (iotaInDim S16384x1024 32 1) (constant S_ .f32 0x7F800000#32) (constantI S_ 32 0#32) (ix1 p) hix g
    (fun j => ix2 p j) (drop_iff p) hx hy

theorem fin_eq {n : ℕ} {m : Fin 1024} (h : n = m.val) (hn : n < 1024) : (⟨n, hn⟩ : Fin 1024) = m := by
  subst h; rfl

/-! ## The distances, the places, the rows -/

section
variable (z : FVec Ideal S16x1024x64 .f32) (e : FVec Ideal S1024x64 .f32)
variable (u : Fin 16384 → Fin 64 → ℝ) (v : Fin 1024 → Fin 64 → ℝ)
variable (hz : ∀ p k, flat z (ix2 p k) = (u p k : EReal)) (he : ∀ j k, e (ix2 j k) = (v j k : EReal))

theorem bookT_apply (k : Fin 64) (j : Fin 1024) : transpose S64x1024 [1, 0] e transposes_S1024x64_S64x1024_1_0 (ix2 k j) = e (ix2 j k) := by
  refine transpose_apply _ _ _ _ (ix2 j k) fun a => ?_
  match a with
  | ⟨0, _⟩ => rfl
  | ⟨1, _⟩ => rfl

include hz he

theorem distOf_apply (p : Fin 16384) (j : Fin 1024) : distOf (flat z) e (ix2 p j) = (sq (u p) (v j) : EReal) := by
  rw [← sq_reference]
  unfold distOf
  rw [ValueIdx.addf_apply, ValueIdx.subf_apply, spread_col, spread_row, sum_rows, sum_book, dot_apply]
  refine congrArg₂ (fun a b : EReal => a + b) (congrArg₂ (fun a b : EReal => a - b) (congrArg (fun a : EReal => 0 + a) ?_) ?_) (congrArg (fun a : EReal => 0 + a) ?_)
  · exact Finset.sum_congr rfl fun k _ => by rw [ValueIdx.mulf_apply, hz]
  · refine Finset.sum_congr rfl fun k _ => ?_
    rw [ValueIdx.mulf_apply, broadcastInDim_scalar_apply, ValueIdx.constant_apply, bookT_apply, hz, he]
    exact congrArg (fun a : EReal => a * _ * _) c_2
  · exact Finset.sum_congr rfl fun k _ => by rw [ValueIdx.mulf_apply, he]

theorem place_apply (p : Fin 16384) : place z e (ix1 p) = BitVec.ofNat 32 (near (u p) v).val :=
  idxOf_apply _ (fun j => sq (u p) (v j)) p fun j => distOf_apply z e u v hz he p j

theorem place_lt (i : S16384.Idx) : (place z e i).toNat < 1024 := by
  obtain ⟨p, rfl⟩ : ∃ p : Fin 16384, i = ix1 p := ⟨i 0, ValueIdx.eq_ix1 i⟩
  rw [place_apply z e u v hz he]
  have := (near (u p) v).isLt
  rw [BitVec.toNat_ofNat]
  omega

theorem place_toNat (p : Fin 16384) : (place z e (ix1 p)).toNat = (near (u p) v).val := by
  rw [place_apply z e u v hz he]
  have := (near (u p) v).isLt
  rw [BitVec.toNat_ofNat]
  omega

theorem rowsAt_apply (p : Fin 16384) (k : Fin 64) : rowsAt e (place z e) (ix2 p k) = (v (near (u p) v) k : EReal) := by
  have hp := fin_eq (place_toNat z e u v hz he p) (place_lt z e u v hz he (ix1 p))
  unfold rowsAt wrapped
  refine (take_rows _ e (place z e) _ (place_lt z e u v hz he) _ _ _ _ _ _ _ _ p k).trans ?_
  rw [hp, he]
end

/-! ## The results -/

/-- Where entry `(b, r, k)` of the input lies among the rows. -/
def rowOf (b : Fin 16) (r : Fin 1024) : Fin 16384 := ⟨b.val * 1024 + r.val, by have := b.isLt; have := r.isLt; omega⟩

theorem flat_eq (z : FVec Ideal S16x1024x64 .f32) (b : Fin 16) (r : Fin 1024) (k : Fin 64) : z (ix3 b r k) = flat z (ix2 (rowOf b r) k) := by
  unfold flat
  refine (shapeCast_apply _ _ _ (ix3 b r k) ?_).symm
  rw [Shape.rowMajor_val_two, Shape.rowMajor_val_three]
  rfl

theorem quant_eq (q : FVec Ideal S16384x64 .f32) (b : Fin 16) (r : Fin 1024) (k : Fin 64) : quant q (ix3 b r k) = q (ix2 (rowOf b r) k) := by
  unfold quant
  refine shapeCast_apply _ _ _ (ix2 (rowOf b r) k) ?_
  rw [Shape.rowMajor_val_two, Shape.rowMajor_val_three]
  rfl

/-- The squared differences, summed over the input as it lies or over its rows. -/
theorem sum_squares (z : FVec Ideal S16x1024x64 .f32) (q : FVec Ideal S16384x64 .f32) :
    ∑ i, mulf (subf (quant q) z) (subf (quant q) z) i
      = ∑ p : Fin 16384, ∑ k : Fin 64, (q (ix2 p k) - flat z (ix2 p k)) * (q (ix2 p k) - flat z (ix2 p k)) := by
  have h : mulf (subf (quant q) z) (subf (quant q) z)
      = shapeCast S16x1024x64 (mulf (subf q (flat z)) (subf q (flat z))) shapeCasts_S16384x64_S16x1024x64 := by
    funext i
    obtain ⟨b, r, k, rfl⟩ : ∃ (b : Fin 16) (r : Fin 1024) (k : Fin 64), i = ix3 b r k := ⟨i 0, i 1, i 2, ValueIdx.eq_ix3 i⟩
    refine Eq.trans ?_ (quant_eq (mulf (subf q (flat z)) (subf q (flat z))) b r k).symm
    rw [ValueIdx.mulf_apply, ValueIdx.mulf_apply, ValueIdx.subf_apply, ValueIdx.subf_apply, quant_eq, flat_eq z]
  rw [h, sum_shapeCast, ValueIdx.sum_idx2]
  rfl

theorem mse_sum (z q : FVec Ideal S16x1024x64 .f32) (i : S_.Idx) :
    mse z q i = Ideal.div (∑ i, mulf (subf q z) (subf q z) i) ((1048576 : ℝ) : EReal) := by
  unfold mse
  generalize mulf (subf q z) (subf q z) = A
  rw [ValueIdx.hostDivf_apply, ValueIdx.hostReduceAdd_apply, ValueIdx.constant_apply, ValueIdx.constant_apply]
  refine congrArg₂ Ideal.div ?_ c_count
  refine (Ideal.hostReduceAdd_total _ (fun b => b.elim0) A _ i).trans ?_
  exact (congrArg (fun a : EReal => a + ∑ k, A k) Ideal.ofBits_zero_f32).trans (zero_add _)

theorem loss_two (m : FVec Ideal S_ .f32) (i : S_.Idx) (s : ℝ) (h : m i = Ideal.div (s : EReal) ((1048576 : ℝ) : EReal)) :
    addf (mulf (constant S_ .f32 0x3E800000#32) m) m i = (s : EReal) * ((5 / 4 / 1048576 : ℝ) : EReal) := by
  rw [ValueIdx.addf_apply, ValueIdx.mulf_apply, h, ValueIdx.constant_apply, ← loss_eq]
  exact congrArg (fun a : EReal => a * Ideal.div (s : EReal) ((1048576 : ℝ) : EReal) + Ideal.div (s : EReal) ((1048576 : ℝ) : EReal)) c_quarter

/-- The padded rows, in their first 64 lanes -/
theorem out_left (z q : FVec Ideal S16x1024x64 .f32) (b : Fin 16) (r : Fin 1024) (k : Fin 128) (hk : k.val < 64) :
    outOf z q (ix3 b r k) = z (ix3 b r (⟨k.val, hk⟩ : Fin 64)) + (q (ix3 b r (⟨k.val, hk⟩ : Fin 64)) - z (ix3 b r (⟨k.val, hk⟩ : Fin 64))) := by
  unfold outOf
  refine (concatenate_pair_apply_left (t := S16x1024x128) (s₁ := S16x1024x64) (s₂ := S16x1024x64) 2 _ _ _ (ix3 b r k) rfl (ValueIdx.ix3 (n0 := 16) (n1 := 1024) (n2 := 64) b r ⟨k.val, hk⟩) fun a => ?_).trans ?_
  · match a with
    | ⟨0, _⟩ => rfl
    | ⟨1, _⟩ => rfl
    | ⟨2, _⟩ => rfl
  · rw [ValueIdx.addf_apply, ValueIdx.subf_apply]

/-- … and in the others. -/
theorem out_right (z q : FVec Ideal S16x1024x64 .f32) (b : Fin 16) (r : Fin 1024) (k : Fin 128) (hk : ¬ k.val < 64) :
    outOf z q (ix3 b r k) = 0 := by
  unfold outOf
  have hk' : k.val - 64 < 64 := by have := k.isLt; omega
  refine (concatenate_pair_apply_right (t := S16x1024x128) (s₁ := S16x1024x64) (s₂ := S16x1024x64) 2 _ _ _ (ix3 b r k) rfl rfl (ValueIdx.ix3 (n0 := 16) (n1 := 1024) (n2 := 64) b r ⟨k.val - 64, hk'⟩) (fun a ha => ?_) ?_).trans ?_
  · match a with
    | ⟨0, _⟩ => rfl
    | ⟨1, _⟩ => rfl
    | ⟨2, _⟩ => exact absurd rfl ha
  · show k.val - 64 + 64 = k.val
    omega
  · rw [broadcastInDim_scalar_apply, ValueIdx.constant_apply]
    exact Ideal.ofBits_zero_f32

section
variable (z : FVec Ideal S16x1024x64 .f32) (e : FVec Ideal S1024x64 .f32)
variable (u : Fin 16384 → Fin 64 → ℝ) (v : Fin 1024 → Fin 64 → ℝ)
variable (hz : ∀ p k, flat z (ix2 p k) = (u p k : EReal)) (he : ∀ j k, e (ix2 j k) = (v j k : EReal))
include hz he

theorem outOf_left (b : Fin 16) (r : Fin 1024) (k : Fin 128) (hk : k.val < 64) :
    outOf z (quant (rowsAt e (place z e))) (ix3 b r k) = (v (near (u (rowOf b r)) v) ⟨k.val, hk⟩ : EReal) := by
  rw [out_left _ _ b r k hk, quant_eq, rowsAt_apply z e u v hz he, flat_eq z, hz, back]

theorem lossOf_apply (i : S_.Idx) : lossOf z (quant (rowsAt e (place z e))) i = ((∑ p, least (u p) v : ℝ) : EReal) * ((5 / 4 / 1048576 : ℝ) : EReal) := by
  unfold lossOf
  refine loss_two _ i _ ((mse_sum z _ i).trans ?_)
  rw [sum_squares, coe_sum]
  refine congrArg (fun a : EReal => Ideal.div a ((1048576 : ℝ) : EReal)) (Finset.sum_congr rfl fun p _ => ?_)
  unfold least Maths.sq
  rw [coe_sum]
  refine Finset.sum_congr rfl fun k _ => ?_
  rw [rowsAt_apply z e u v hz he, hz, ← EReal.coe_sub, ← EReal.coe_mul]
  congr 1
  ring

theorem idxAs_apply (b : Fin 16) (r : Fin 1024) : idxAs (place z e) (ix2 b r) = BitVec.ofNat 32 (near (u (rowOf b r)) v).val := by
  rw [← place_apply z e u v hz he]
  unfold idxAs
  refine shapeCast_apply _ _ _ (ix1 (rowOf b r)) ?_
  rw [Shape.rowMajor_val_one, Shape.rowMajor_val_two]
  rfl
end

end Cert.Proof.WholeRef

end
-- ==== Proof.Whole.Meet.lean ====
/-
  The kernel's results and the reference's, as terms of one real input and one real codebook, are equal.
-/
module

public import proofs.«01_k».proof.Proof.Whole.KernelMath
public import proofs.«01_k».proof.Proof.Whole.RefMath
public import proofs.«01_k».proof.Pre_finite
public import Idealize.ShloMosaic.Lib.ReduceAll

@[expose] public section

set_option maxRecDepth 16384

noncomputable section

namespace Cert.Proof.WholeRun

open Cert.KernelIdeal Cert.KernelIdeal.Gen Cert.Proof.Maths
open Idealize.ShloMosaic hiding ix1 ix2 ix3
open Idealize.ShloMosaic.ValueIdx
open Cert.Proof.WholeRef (rowOf outOf quant rowsAt place idxAs lossOf flat)
open scoped BigOperators

section
variable (e : FVec Ideal S1024x64 .f32)

theorem cbPad_left (j : Fin 1024) (k : Fin 128) (hk : k.val < 64) : cbPad e (ix2 j k) = e (ix2 j (⟨k.val, hk⟩ : Fin 64)) := by
  unfold cbPad
  refine concatenate_pair_apply_left (t := S1024x128) (s₁ := S1024x64) (s₂ := S1024x64) 1 _ _ _ (ix2 j k) rfl (ix2 j (⟨k.val, hk⟩ : Fin 64)) fun a => ?_
  match a with
  | ⟨0, _⟩ => rfl
  | ⟨1, _⟩ => rfl

theorem cbPad_right (j : Fin 1024) (k : Fin 128) (hk : ¬ k.val < 64) : cbPad e (ix2 j k) = 0 := by
  unfold cbPad
  have hk' : k.val - 64 < 64 := by have := k.isLt; omega
  refine (concatenate_pair_apply_right (t := S1024x128) (s₁ := S1024x64) (s₂ := S1024x64) 1 _ _ _ (ix2 j k) rfl rfl (ix2 j (⟨k.val - 64, hk'⟩ : Fin 64)) (fun a ha => ?_) ?_).trans ?_
  · match a with
    | ⟨0, _⟩ => rfl
    | ⟨1, _⟩ => exact absurd rfl ha
  · show k.val - 64 + 64 = k.val
    omega
  · rw [broadcastInDim_scalar_apply, ValueIdx.constant_apply]
    exact Ideal.ofBits_zero_f32
end

/-- A row of the table at a place known to be a row's number. -/
theorem rowsOf_apply (x : S1024x128.Idx → EReal) (i : S16384.Idx → BitVec 32) (p : Fin 16384) (k : Fin 128) (n : Fin 1024)
    (h : i (ix1 p) = BitVec.ofNat 32 n.val) : rowsOf x i (ix2 p k) = x (ix2 n k) := by
  have hn : (i (ix1 p)).toNat % 1024 = n.val := by
    rw [h, BitVec.toNat_ofNat]
    have := n.isLt
    omega
  have hf := WholeRef.fin_eq hn (Nat.mod_lt _ (by decide))
  unfold rowsOf
  exact congrArg (fun a => x (ix2 a k)) hf

section
variable (z : FVec Ideal S16x1024x64 .f32) (e : FVec Ideal S1024x64 .f32)
variable (u : Fin 16384 → Fin 64 → ℝ) (v : Fin 1024 → Fin 64 → ℝ)
variable (hz : ∀ p k, zRows z (ix2 p k) = (u p k : EReal)) (he : ∀ j k, e (ix2 j k) = (v j k : EReal))
include hz he

theorem rows_meet : kRows z e = outOf z (quant (rowsAt e (place z e))) := by
  funext i
  obtain ⟨b, r, k, rfl⟩ : ∃ (b : Fin 16) (r : Fin 1024) (k : Fin 128), i = ix3 b r k := ⟨i 0, i 1, i 2, ValueIdx.eq_ix3 i⟩
  have hl : kRows z e (ix3 b r k) = cbPad e (ix2 (near (u (rowOf b r)) v) k) := by
    unfold kRows
    refine (shapeCast_apply _ _ _ (ix2 (rowOf b r) k) ?_).trans
      (rowsOf_apply _ _ (rowOf b r) k _ (kList_apply z e u v hz he (rowOf b r)))
    rw [Shape.rowMajor_val_two, Shape.rowMajor_val_three]
    rfl
  rw [hl]
  by_cases hk : k.val < 64
  · rw [cbPad_left _ _ _ hk, he]
    exact (WholeRef.outOf_left z e u v hz he b r k hk).symm
  · rw [cbPad_right _ _ _ hk]
    exact (WholeRef.out_right z _ b r k hk).symm

theorem places_meet : kPlaces z e = idxAs (place z e) := by
  funext i
  obtain ⟨b, r, rfl⟩ : ∃ (b : Fin 16) (r : Fin 1024), i = ix2 b r := ⟨i 0, i 1, ValueIdx.eq_ix2 i⟩
  refine Eq.trans ?_ (WholeRef.idxAs_apply z e u v hz he b r).symm
  unfold kPlaces
  refine (shapeCast_apply _ _ _ (ix2 (rowOf b r) (0 : Fin 1)) ?_).trans (kIdx_apply z e u v hz he (rowOf b r) 0)
  rw [Shape.rowMajor_val_two, Shape.rowMajor_val_two]
  show (b.val * 1024 + r.val) * 1 + 0 = b.val * 1024 + r.val
  omega

theorem loss_meet : kLoss z e = lossOf z (quant (rowsAt e (place z e))) := by
  funext i
  exact (kLoss_apply z e u v hz he i).trans (WholeRef.lossOf_apply z e u v hz he i).symm
end

/-! ## What the precondition says -/

theorem real_of_lt (x : EReal) (h : Ideal.cmp .olt (max x (-x)) (Ideal.ofBits .f32 0x7F800000#32) = 1#1) : x = ((x.toReal : ℝ) : EReal) := by
  rw [c_inf] at h
  have hlt : max x (-x) < ⊤ := by
    by_contra hn
    simp [Ideal.cmp, hn] at h
  induction x with
  | bot => simp at hlt
  | coe r => rfl
  | top => simp at hlt

instance : Subsingleton (Cert.Pre_finite.S_.Idx) := ⟨fun _ _ => funext fun a => a.elim0⟩

theorem and_one (a b : BitVec 1) (h : IntOp.andi a b = 1#1) : a = 1#1 ∧ b = 1#1 := by
  revert a b; decide

theorem finite_args [Cert.Pre_finite.Facts] (z : FVec Ideal S16x1024x64 .f32) (e : FVec Ideal S1024x64 .f32)
    (h : Cert.Pre_finite.fn (F := Ideal) z e = fun _ => 1#1) :
    (∀ i, z i = (((z i).toReal : ℝ) : EReal)) ∧ ∀ i, e i = (((e i).toReal : ℝ) : EReal) := by
  have h0 := congrFun h (fun a => a.elim0)
  obtain ⟨h1, h2⟩ := and_one _ _ h0
  exact ⟨fun i => real_of_lt _ (Host.reduce_andi_all _ _ _ _ _ h1 i),
    fun i => real_of_lt _ (Host.reduce_andi_all _ _ _ _ _ h2 i)⟩

end Cert.Proof.WholeRun

end
-- ==== Proof.Whole.Claims.lean ====
/-
  The whole kernel, read over the extended reals, against the plain reference: from finite arguments both run, end with
  equal results, and leave their arguments as they were.
-/
module

public import proofs.«01_k».proof.Defs
public import proofs.«01_k».proof.Proof.Gen.Pre_finite
public import proofs.«01_k».proof.Proof.Whole.Meet

@[expose] public section

noncomputable section

namespace Cert.Proof.WholeRun

open Cert.KernelIdeal Cert.KernelIdeal.Gen Cert.Proof.Maths
open Idealize.ShloMosaic hiding ix1 ix2 ix3
open Idealize.ShloMosaic.ValueIdx Idealize.SL.Sem

instance : Cert.Pre_finite.Facts := Cert.Pre_finite.Gen.facts
instance : Cert.ReferenceIdeal.Facts := Cert.ReferenceIdeal.Gen.facts
instance (e : EltTy) : Nonempty (Elt Ideal e) := by cases e <;> exact ⟨by first | exact (0 : EReal) | exact 0#_⟩

variable (m : (ℓ : Loc nD τ sig) → Buf (Elt Ideal) ℓ)

/-- The input's rows and the codebook's, as reals. -/
def uOf (d : Dev nD) (p : Fin 16384) (k : Fin 64) : ℝ := (zRows (argZ m d) (ix2 p k)).toReal
def vOf (d : Dev nD) (j : Fin 1024) (k : Fin 64) : ℝ := (argE m d (ix2 j k)).toReal

section
variable (hp : Cert.Pre_KernelIdeal m)
include hp

theorem hz (d : Dev nD) (p : Fin 16384) (k : Fin 64) : zRows (argZ m d) (ix2 p k) = (uOf m d p k : EReal) :=
  (finite_args (argZ m d) (argE m d) (hp d)).1 _
theorem he (d : Dev nD) (j : Fin 1024) (k : Fin 64) : argE m d (ix2 j k) = (vOf m d j k : EReal) :=
  (finite_args (argZ m d) (argE m d) (hp d)).2 _

theorem in_table (d : Dev nD) (j : S16384.Idx) : (kList (argZ m d) (argE m d) j).toNat < 1024 :=
  kList_lt _ _ (uOf m d) (vOf m d) (hz m hp d) (he m hp d) j
end

/-- The kernel runs from finite arguments, its arguments unchanged and every counter back at zero. -/
theorem frame : Cert.quiescent_KernelIdeal := fun m g hp =>
  (θ_run _ _ _).mono (fun _ h => ⟨fun c => ⟨(h.1 c).2.2.2.1, (h.1 c).2.2.2.2⟩, h.2⟩) (run (F := Ideal) m g (in_table m hp))

/-- The reference runs, its arguments unchanged; it has no counters. -/
theorem frame_ref : Cert.quiescent_ReferenceIdeal := fun m g _ =>
  (θ_run _ _ _).mono (fun r h => ⟨fun c => ⟨(h c).2.2.2.1, (h c).2.2.2.2⟩, sem_eq_zero_of_no_sems (by decide) r.2⟩) (WholeRef.run (F := Ideal) m g)

theorem frame_ref_finite : Cert.quiescent_ReferenceIdeal_pre_finite := fun m g _ => frame_ref m g trivial

/-- From finite arguments the kernel and the reference end with the same rows, the same places and the same loss. -/
theorem algebraic : Cert.algebraic_KernelIdeal_ReferenceIdeal := fun m g m' g' hp harg => by
  refine ⟨fun c => kRows (argZ m c) (argE m c), fun c => kPlaces (argZ m c) (argE m c), fun c => kLoss (argZ m c) (argE m c),
    (θ_run _ _ _).mono (fun _ h c => h.1 c) (run (F := Ideal) m g (in_table m hp)),
    (θ_run _ _ _).mono (fun _ h c => ⟨(h c).1.trans ?_, (h c).2.1.trans ?_, (h c).2.2.1.trans ?_, (h c).2.2.2.1, (h c).2.2.2.2⟩)
      (WholeRef.run (F := Ideal) m' g')⟩
  · rw [(harg c).1, (harg c).2]
    exact (rows_meet _ _ (uOf m c) (vOf m c) (hz m hp c) (he m hp c)).symm
  · rw [(harg c).1, (harg c).2]
    exact (places_meet _ _ (uOf m c) (vOf m c) (hz m hp c) (he m hp c)).symm
  · rw [(harg c).1, (harg c).2]
    exact (loss_meet _ _ (uOf m c) (vOf m c) (hz m hp c) (he m hp c)).symm

end Cert.Proof.WholeRun

end
-- ==== Proof.lean ====
/-
  The certificate: the whole kernel against the plain reference over the extended reals; the SparseCore gather call against
  `jnp.take`, bit for bit; and the TensorCore call's frames.
-/
module

public import proofs.«01_k».proof.Defs
public import proofs.«01_k».proof.Proof.Gather.Value
public import proofs.«01_k».proof.Proof.Gen.Argmin.Frame
public import proofs.«01_k».proof.Proof.Gen.ArgminIdeal.Frame
public import proofs.«01_k».proof.Proof.Whole.Claims

@[expose] public section

theorem Cert.Proof.claim : Cert.Claim :=
  ⟨Cert.KernelIdeal.Gen.facts, Cert.ReferenceIdeal.Gen.facts, Cert.Gather.Gen.facts, Cert.Gathered.Gen.facts, Cert.Argmin.Gen.facts,
    Cert.ArgminIdeal.Gen.facts, Cert.Pre_finite.Gen.facts, Cert.Pre_in_table.Gen.facts, Cert.Proof.WholeRun.frame, Cert.Proof.WholeRun.frame_ref,
    Cert.Proof.WholeRun.frame_ref_finite,
    Cert.Proof.GatherRun.frame, Cert.Proof.GatherRun.frame_ref, fun m ρ _ => Cert.Argmin.Gen.frame m ρ, fun m ρ _ => Cert.ArgminIdeal.Gen.frame m ρ,
    Cert.Proof.WholeRun.algebraic, Cert.Proof.GatherRun.bitexact, trivial⟩
